-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v2_0)) (v4 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_v2_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x9472 : Shape := ⟨3, ![8, 1024, 9472]⟩
abbrev S8x1024x3584 : Shape := ⟨3, ![8, 1024, 3584]⟩
abbrev S9472x3584 : Shape := ⟨2, ![9472, 3584]⟩
abbrev S8192x9472 : Shape := ⟨2, ![8192, 9472]⟩
abbrev S8192x3584 : Shape := ⟨2, ![8192, 3584]⟩
abbrev S1x3584 : Shape := ⟨2, ![1, 3584]⟩
abbrev S8192x256 : Shape := ⟨2, ![8192, 256]⟩
abbrev S1x256 : Shape := ⟨2, ![1, 256]⟩
abbrev S256 : Shape := ⟨1, ![256]⟩
abbrev S1x9472 : Shape := ⟨2, ![1, 9472]⟩
abbrev S256x512 : Shape := ⟨2, ![256, 512]⟩
abbrev S256x8192 : Shape := ⟨2, ![256, 8192]⟩
abbrev S256x128 : Shape := ⟨2, ![256, 128]⟩
abbrev S128x256 : Shape := ⟨2, ![128, 256]⟩
abbrev S8192x512 : Shape := ⟨2, ![8192, 512]⟩
abbrev S1x512 : Shape := ⟨2, ![1, 512]⟩

abbrev nBuf : Space → Nat
  | .hbm => 10
  | .vmem => 20
  | .smem => 0
  | _ => 0

abbrev bufTy : (tb : Table) → Fin (tcTables nBuf tb) → BufTy
  | .hbm, ⟨0, _⟩ => ⟨S8x1024x9472, .bf16⟩
  | .hbm, ⟨1, _⟩ => ⟨S8x1024x3584, .bf16⟩
  | .hbm, ⟨2, _⟩ => ⟨S9472x3584, .f32⟩
  | .hbm, ⟨3, _⟩ => ⟨S8192x9472, .bf16⟩
  | .hbm, ⟨4, _⟩ => ⟨S8192x3584, .bf16⟩
  | .hbm, ⟨5, _⟩ => ⟨S8192x3584, .fp8e5m2⟩
  | .hbm, ⟨6, _⟩ => ⟨S1x3584, .f32⟩
  | .hbm, ⟨7, _⟩ => ⟨S9472x3584, .f32⟩
  | .hbm, ⟨8, _⟩ => ⟨S8192x9472, .fp8e4m3⟩
  | .hbm, ⟨9, _⟩ => ⟨S1x9472, .f32⟩
  | .local _ .vmem, ⟨0, _⟩ => ⟨S8192x256, .bf16⟩
  | .local _ .vmem, ⟨1, _⟩ => ⟨S8192x256, .bf16⟩
  | .local _ .vmem, ⟨2, _⟩ => ⟨S8192x256, .fp8e5m2⟩
  | .local _ .vmem, ⟨3, _⟩ => ⟨S8192x256, .fp8e5m2⟩
  | .local _ .vmem, ⟨4, _⟩ => ⟨S1x256, .f32⟩
  | .local _ .vmem, ⟨5, _⟩ => ⟨S1x256, .f32⟩
  | .local _ .vmem, ⟨6, _⟩ => ⟨S8192x256, .bf16⟩
  | .local _ .vmem, ⟨7, _⟩ => ⟨S8192x256, .bf16⟩
  | .local _ .vmem, ⟨8, _⟩ => ⟨S8192x3584, .fp8e5m2⟩
  | .local _ .vmem, ⟨9, _⟩ => ⟨S1x3584, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S8192x256, .fp8e4m3⟩
  | .local _ .vmem, ⟨15, _⟩ => ⟨S8192x256, .fp8e4m3⟩
  | .local _ .vmem, ⟨16, _⟩ => ⟨S1x256, .f32⟩
  | .local _ .vmem, ⟨17, _⟩ => ⟨S1x256, .f32⟩
  | .local _ .vmem, ⟨18, _⟩ => ⟨S256x8192, .fp8e4m3⟩
  | .local _ .vmem, ⟨19, _⟩ => ⟨S256x128, .f32⟩
  | _, _ => ⟨S8x1024x9472, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![37, 7], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k1_mult2 (i : grid1.Coords) : BitVec 32 :=
  let arg1 : BitVec 32 := BitVec.ofNat 32 (i 1).val
  let c512_i32_5 : BitVec 32 := 512#32
  let v12 : BitVec 32 := Scalar.muli arg1 c512_i32_5
  v12
def k1_off2 (i : grid1.Coords) : Fin 2 → Nat :=
  let c0_6 : Index := 0#32
  let arg1 : BitVec 32 := BitVec.ofNat 32 (i 1).val
  let c512_i32_5 : BitVec 32 := 512#32
  let v12 : BitVec 32 := Scalar.muli arg1 c512_i32_5
  let v13 : BitVec 32 := v12
  let v14 : Index := Scalar.indexCast v13
  ![0, v14.toNat]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8192x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x3584 .fp8e5m2 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x3584 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8192x256 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S8x1024x9472 : Shape := ⟨3, ![8, 1024, 9472]⟩
abbrev S8x1024x3584 : Shape := ⟨3, ![8, 1024, 3584]⟩
abbrev S9472x3584 : Shape := ⟨2, ![9472, 3584]⟩
abbrev S8192x9472 : Shape := ⟨2, ![8192, 9472]⟩
abbrev S8192x3584 : Shape := ⟨2, ![8192, 3584]⟩
abbrev S1x9472 : Shape := ⟨2, ![1, 9472]⟩
abbrev S1x3584 : Shape := ⟨2, ![1, 3584]⟩
abbrev S9472 : Shape := ⟨1, ![9472]⟩
abbrev S3584 : Shape := ⟨1, ![3584]⟩
abbrev S9472x1 : Shape := ⟨2, ![9472, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x1024x9472, .bf16⟩
  | .hbm, ⟨1, _⟩ => ⟨S8x1024x3584, .bf16⟩
  | .hbm, ⟨2, _⟩ => ⟨S9472x3584, .f32⟩
  | .hbm, ⟨3, _⟩ => ⟨S8192x9472, .bf16⟩
  | .hbm, ⟨4, _⟩ => ⟨S8192x3584, .bf16⟩
  | .hbm, ⟨5, _⟩ => ⟨S9472x3584, .f32⟩
  | .hbm, ⟨6, _⟩ => ⟨S8192x9472, .fp8e4m3⟩
  | .hbm, ⟨7, _⟩ => ⟨S1x9472, .f32⟩
  | .hbm, ⟨8, _⟩ => ⟨S8192x3584, .fp8e5m2⟩
  | .hbm, ⟨9, _⟩ => ⟨S1x3584, .f32⟩
  | .local _ .vmem, ⟨0, _⟩ => ⟨S8192x9472, .bf16⟩
  | .local _ .vmem, ⟨1, _⟩ => ⟨S8192x3584, .bf16⟩
  | .local _ .vmem, ⟨2, _⟩ => ⟨S9472x3584, .f32⟩
  | .local _ .vmem, ⟨3, _⟩ => ⟨S9472x3584, .f32⟩
  | .local _ .vmem, ⟨4, _⟩ => ⟨S8192x9472, .fp8e4m3⟩
  | .local _ .vmem, ⟨5, _⟩ => ⟨S1x9472, .f32⟩
  | .local _ .vmem, ⟨6, _⟩ => ⟨S8192x3584, .fp8e5m2⟩
  | .local _ .vmem, ⟨7, _⟩ => ⟨S1x3584, .f32⟩
  | _, _ => ⟨S8x1024x9472, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x9472 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9472x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x9472 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9472 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KBodies.lean ====
/- The two kernel bodies on whole buffers: what each leaves in every buffer it writes, as functions of what it reads. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first kernel's search finds of a block of `dy`: the exponents. -/
def exp0 (x : Vec F S8192x256 .bf16) : IVec S1x256 32 := k0_pay9 (k0_pay6 x) (k0_pay7 x) (k0_pay8 x) 16#32
/-- Where that exponent is 0 or 255. -/
def special0 (x : Vec F S8192x256 .bf16) : IVec S1x256 1 := k0_pay10 (k0_pay6 x) (k0_pay7 x) (k0_pay8 x) 16#32
/-- The scale the first kernel writes for a block of `dy`. -/
def scale0 (x : Vec F S8192x256 .bf16) : FVec F S1x256 .f32 := k0_pay2 (k0_pay5 x) (exp0 x) (special0 x) (k0_pay11 (F := F))
/-- The codes the first kernel writes for a block of `dy`. -/
def codes0 (x : Vec F S8192x256 .bf16) : FVec F S8192x256 .fp8e5m2 := k0_pay3 (k0_pay4 x) (k0_pay5 x) (exp0 x) (special0 x) (k0_pay11 (F := F))

theorem cover0_1 (p0 : Vec F S8192x256 .fp8e5m2) (y : S8192x256.Idx) :
    ∃ pc ∈ ([⟨Rect.unit (s := S8192x256) ![0, 0] S8192x256.size inb_S8192x256_S8192x256_0_0, p0⟩] : List (View.Piece (Elt F) S8192x256 .fp8e5m2)), y ∈ pc.1.set :=
  View.cover_of_tiled _ S8192x256.size (by rfl) y
theorem cover0_2 (p0 : Vec F S1x256 .f32) (y : S1x256.Idx) :
    ∃ pc ∈ ([⟨Rect.unit (s := S1x256) ![0, 0] S1x256.size inb_S1x256_S1x256_0_0, p0⟩] : List (View.Piece (Elt F) S1x256 .f32)), y ∈ pc.1.set :=
  View.cover_of_tiled _ S1x256.size (by rfl) y

/-- The offsets of a whole-buffer access are zero. -/
theorem off2 : (![0, 0] : Fin 2 → ℕ) = fun _ => 0 := by decide

set_option maxHeartbeats 1000000 in
/-- The first kernel's body on whole staging buffers: the block read is left as it was, the codes and the scale are
    written at `codes0` and `scale0` of it. -/
theorem sound0 (c : Dev nD) (E : Set ℕ) (i : grid0.Coords) (arg1 : Memref sig .tc .vmem S8192x256 .bf16) (harg1 : arg1.IsWhole) (arg2 : Memref sig .tc .vmem S8192x256 .fp8e5m2) (harg2 : arg2.IsWhole) (arg3 : Memref sig .tc .vmem S1x256 .f32) (harg3 : arg3.IsWhole)
    (x0 : Vec F S8192x256 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (codes0 x0) ∗ owns (c : Thread nD τ) arg3 fullShare (scale0 x0)) -∗ K ⟨⟩))
      ⊢ wp frame (wpE (defs₀ (F := F)) Variants.none c none) E (cc0_quant_dy i arg1 harg1 arg2 harg2 arg3 harg3) K := by
  simp only [cc0_quant_dy_eq_skeleton]; unfold cc0_quant_dy_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    refine (View.canon_unit_zero off2 _ _).trans ?_
    exact congrArg codes0 (View.ld_unit_zero off2 inb_S8192x256_S8192x256_0_0 (arg1.view.read (Elt F) f0))
  iexists _; isplitr
  swap; · iexact H2
  ipureintro
  refine (View.read_writes_eq_canon _ _ _ (cover0_2 _)).trans ?_
  refine (View.canon_unit_zero off2 _ _).trans ?_
  exact congrArg scale0 (View.ld_unit_zero off2 inb_S8192x256_S8192x256_0_0 (arg1.view.read (Elt F) f0))

/-- What the second kernel's search finds of a block of `x`: the exponents. -/
def exp1 (x : Vec F S8192x256 .bf16) : IVec S1x256 32 := k1_pay10 (k1_pay6 x) (k1_pay7 x) (k1_pay8 x) k1_pay9
/-- Where that exponent is 0 or 255. -/
def special1 (x : Vec F S8192x256 .bf16) : IVec S1x256 1 := k1_pay11 (k1_pay6 x) (k1_pay7 x) (k1_pay8 x) k1_pay9
/-- Where the block's column is all zero. -/
def zero1 (x : Vec F S8192x256 .bf16) : IVec S1x256 1 := k1_pay12 (k1_pay5 x)
/-- The scale the second kernel writes for a block of `x`. -/
def scale1 (x : Vec F S8192x256 .bf16) : FVec F S1x256 .f32 := k1_pay14 (exp1 x) (special1 x) (zero1 x)
/-- The scale as the kernel keeps it for the block's products: a column, repeated over 128 lanes. -/
def scol1 (x : Vec F S8192x256 .bf16) : FVec F S256x128 .f32 := k1_pay15 (exp1 x) (special1 x) (zero1 x)
/-- The scaled and clipped block, before it is narrowed to codes. -/
def pre1 (x : Vec F S8192x256 .bf16) : FVec F S8192x256 .bf16 := k1_pay16 (k1_pay4 x) (exp1 x) (special1 x) (zero1 x)
/-- The codes the second kernel writes for a block of `x`. -/
def codes1 (x : Vec F S8192x256 .bf16) : FVec F S8192x256 .fp8e4m3 := k1_pay1 (pre1 x)
/-- The codes transposed, as the kernel keeps them for the block's products. -/
def xt1 (x : Vec F S8192x256 .bf16) : FVec F S256x8192 .fp8e4m3 := k1_pay2 (pre1 x)
/-- The tile of the gradient the second kernel writes at a point: from the codes and scales of `dy` (whole arrays), the
    tile of the gradient to add to, and the two buffers kept of the block of `x`. -/
def wgradTile (i : grid1.Coords) (x1 : Vec F S8192x3584 .fp8e5m2) (x2 : Vec F S1x3584 .f32) (x3 : Vec F S256x512 .f32)
    (s0 : Vec F S256x8192 .fp8e4m3) (s1 : Vec F S256x128 .f32) : FVec F S256x512 .f32 :=
  k1_pay3 (View.ld x1 (Rect.unit (s := S8192x3584) (k1_off1 i) S8192x512.size (k1_off1_inb i))) s0 s1
    (View.ld x2 (Rect.unit (s := S1x3584) (k1_off2 i) S1x512.size (k1_off2_inb i))) x3

theorem cover1_4 (p0 : Vec F S256x512 .f32) (y : S256x512.Idx) :
    ∃ pc ∈ ([⟨Rect.unit (s := S256x512) ![0, 0] S256x512.size inb_S256x512_S256x512_0_0, p0⟩] : List (View.Piece (Elt F) S256x512 .f32)), y ∈ pc.1.set :=
  View.cover_of_tiled _ S256x512.size (by rfl) y
theorem cover1_5 (p0 : Vec F S8192x256 .fp8e4m3) (y : S8192x256.Idx) :
    ∃ pc ∈ ([⟨Rect.unit (s := S8192x256) ![0, 0] S8192x256.size inb_S8192x256_S8192x256_0_0, p0⟩] : List (View.Piece (Elt F) S8192x256 .fp8e4m3)), y ∈ pc.1.set :=
  View.cover_of_tiled _ S8192x256.size (by rfl) y
theorem cover1_7 (p0 : Vec F S256x8192 .fp8e4m3) (y : S256x8192.Idx) :
    ∃ pc ∈ ([⟨Rect.unit (s := S256x8192) ![0, 0] S256x8192.size inb_S256x8192_S256x8192_0_0, p0⟩] : List (View.Piece (Elt F) S256x8192 .fp8e4m3)), y ∈ pc.1.set :=
  View.cover_of_tiled _ S256x8192.size (by rfl) y
theorem cover1_8 (p0 : Vec F S256x128 .f32) (y : S256x128.Idx) :
    ∃ pc ∈ ([⟨Rect.unit (s := S256x128) ![0, 0] S256x128.size inb_S256x128_S256x128_0_0, p0⟩] : List (View.Piece (Elt F) S256x128 .f32)), y ∈ pc.1.set :=
  View.cover_of_tiled _ S256x128.size (by rfl) y

set_option maxHeartbeats 2000000 in
/-- The second kernel's body at the first point of a strip: it quantises the block of `x`, keeps the transposed codes
    and the scale column, and writes the tile. -/
theorem sound1_A (c : Dev nD) (E : Set ℕ) (i : grid1.Coords) (arg2 : Memref sig .tc .vmem S8192x256 .bf16) (harg2 : arg2.IsWhole) (arg3 : Memref sig .tc .vmem S8192x3584 .fp8e5m2) (harg3 : arg3.IsWhole) (arg4 : Memref sig .tc .vmem S1x3584 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8192x256 .fp8e4m3) (harg7 : arg7.IsWhole) (arg8 : Memref sig .tc .vmem S1x256 .f32) (harg8 : arg8.IsWhole) (arg9 : Memref sig .tc .vmem S256x8192 .fp8e4m3) (harg9 : arg9.IsWhole) (arg10 : Memref sig .tc .vmem S256x128 .f32) (harg10 : arg10.IsWhole) (hc0 : k1_cond1 i = 1#1)
    (x0 : Vec F S8192x256 .bf16) (x1 : Vec F S8192x3584 .fp8e5m2) (x2 : Vec F S1x3584 .f32) (x3 : Vec F S256x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wgradTile i x1 x2 x3 (xt1 x0) (scol1 x0)) ∗ owns (c : Thread nD τ) arg7 fullShare (codes1 x0) ∗ owns (c : Thread nD τ) arg8 fullShare (scale1 x0) ∗ owns (c : Thread nD τ) arg9 fullShare (xt1 x0) ∗ owns (c : Thread nD τ) arg10 fullShare (scol1 x0)) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  subst hf0; subst hf1; subst hf2; subst hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    refine (View.canon_unit_zero off2 _ _).trans ?_
    have e8 : sound1_A.sl.v8 c arg2 arg9 f0 = xt1 (View.read (Elt F) arg2.view f0) := by
      refine (View.readCov_unit_zero _ off2 _ _).trans ?_
      exact congrArg xt1 (View.ld_unit_zero off2 inb_S8192x256_S8192x256_0_0 (arg2.view.read (Elt F) f0))
    have e10 : sound1_A.sl.v10 c arg2 arg10 f0 = scol1 (View.read (Elt F) arg2.view f0) := by
      refine (View.readCov_unit_zero _ off2 _ _).trans ?_
      exact congrArg scol1 (View.ld_unit_zero off2 inb_S8192x256_S8192x256_0_0 (arg2.view.read (Elt F) f0))
    rw [e8, e10]
    exact congrArg (k1_pay3 _ _ _ _) (View.ld_unit_zero off2 inb_S256x512_S256x512_0_0 (arg5.view.read (Elt F) f3))
  isplitl [H5]
  · iexists _; isplitr
    swap; · iexact H5
    ipureintro
    refine (View.read_writes_eq_canon _ _ _ (cover1_5 _)).trans ?_
    refine (View.canon_unit_zero off2 _ _).trans ?_
    exact congrArg codes1 (View.ld_unit_zero off2 inb_S8192x256_S8192x256_0_0 (arg2.view.read (Elt F) f0))
  isplitl [H6]
  · iexists _; isplitr
    swap; · iexact H6
    ipureintro
    refine (View.read_writes_eq_canon _ _ _ (cover0_2 _)).trans ?_
    refine (View.canon_unit_zero off2 _ _).trans ?_
    exact congrArg scale1 (View.ld_unit_zero off2 inb_S8192x256_S8192x256_0_0 (arg2.view.read (Elt F) f0))
  isplitl [HS0]
  · iexists _; isplitr
    swap; · iexact HS0
    ipureintro
    refine (View.read_writes_eq_canon _ _ _ (cover1_7 _)).trans ?_
    refine (View.canon_unit_zero off2 _ _).trans ?_
    exact congrArg xt1 (View.ld_unit_zero off2 inb_S8192x256_S8192x256_0_0 (arg2.view.read (Elt F) f0))
  iexists _; isplitr
  swap; · iexact HS1
  ipureintro
  refine (View.read_writes_eq_canon _ _ _ (cover1_8 _)).trans ?_
  refine (View.canon_unit_zero off2 _ _).trans ?_
  exact congrArg scol1 (View.ld_unit_zero off2 inb_S8192x256_S8192x256_0_0 (arg2.view.read (Elt F) f0))

set_option maxHeartbeats 2000000 in
/-- The second kernel's body at any other point of a strip: it reads the two kept buffers and writes the tile, and leaves
    the rest as it was. -/
theorem sound1_B (c : Dev nD) (E : Set ℕ) (i : grid1.Coords) (arg2 : Memref sig .tc .vmem S8192x256 .bf16) (harg2 : arg2.IsWhole) (arg3 : Memref sig .tc .vmem S8192x3584 .fp8e5m2) (harg3 : arg3.IsWhole) (arg4 : Memref sig .tc .vmem S1x3584 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8192x256 .fp8e4m3) (harg7 : arg7.IsWhole) (arg8 : Memref sig .tc .vmem S1x256 .f32) (harg8 : arg8.IsWhole) (arg9 : Memref sig .tc .vmem S256x8192 .fp8e4m3) (harg9 : arg9.IsWhole) (arg10 : Memref sig .tc .vmem S256x128 .f32) (harg10 : arg10.IsWhole) (hc0 : ¬ k1_cond1 i = 1#1)
    (x0 : Vec F S8192x256 .bf16) (x1 : Vec F S8192x3584 .fp8e5m2) (x2 : Vec F S1x3584 .f32) (x3 : Vec F S256x512 .f32)
    (y5 : Vec F S8192x256 .fp8e4m3) (y6 : Vec F S1x256 .f32) (s0 : Vec F S256x8192 .fp8e4m3) (s1 : Vec F S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5 ∗ owns (c : Thread nD τ) arg8 fullShare y6 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wgradTile i x1 x2 x3 s0 s1) ∗ owns (c : Thread nD τ) arg7 fullShare y5 ∗ owns (c : Thread nD τ) arg8 fullShare y6 ∗ owns (c : Thread nD τ) arg9 fullShare s0 ∗ owns (c : Thread nD τ) arg10 fullShare s1) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  subst hf0; subst hf1; subst hf2; subst hf3; subst hf5; subst hf6; subst hfs0; subst hfs1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    refine (View.canon_unit_zero off2 _ _).trans ?_
    exact congr (congr (congr (congrArg (k1_pay3 _)
      (View.ld_unit_zero off2 inb_S256x8192_S256x8192_0_0 (arg9.view.read (Elt F) fs0)))
      (View.ld_unit_zero off2 inb_S256x128_S256x128_0_0 (arg10.view.read (Elt F) fs1))) rfl)
      (View.ld_unit_zero off2 inb_S256x512_S256x512_0_0 (arg5.view.read (Elt F) f3))
  isplitl [H5]
  · iexists f5; isplitr; · ipureintro; rfl
    iexact H5
  isplitl [H6]
  · iexists f6; isplitr; · ipureintro; rfl
    iexact H6
  isplitl [HS0]
  · iexists fs0; isplitr; · ipureintro; rfl
    iexact HS0
  iexists fs1; isplitr; · ipureintro; rfl
  iexact HS1

end Cert.Kernel.Run

end
-- ==== Proof.KDats0.lean ====
/- The two pipelines' proof data over any contents of the arrays at entry, and the bodies' obligations at every point. -/
module

public import proofs.«01_k».proof.Proof.KBodies
public import Idealize.ShloMosaic.Lib.Pipeline.ValueKit

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Blocks of columns -/

/-- Columns `256 s … 256 s + 255` of the array `x`. -/
def xblk (A : S8192x9472.Idx → Elt F .bf16) (s : Fin 37) : Vec F S8192x256 .bf16 :=
  fun y => A (ix2 ⟨(y 0).val, (y 0).isLt⟩ ⟨s.val * 256 + (y 1).val, by have h : (y 1).val < 256 := (y 1).isLt; omega⟩)

/-- Columns `256 s … 256 s + 255` of the array `dy`. -/
def dyblk (A : S8192x3584.Idx → Elt F .bf16) (s : Fin 14) : Vec F S8192x256 .bf16 :=
  fun y => A (ix2 ⟨(y 0).val, (y 0).isLt⟩ ⟨s.val * 256 + (y 1).val, by have h : (y 1).val < 256 := (y 1).isLt; omega⟩)

/-- The tile of rows `256 s …` and columns `512 n …` of the gradient accumulated into. -/
def mgblk (A : S9472x3584.Idx → Elt F .f32) (s : Fin 37) (n : Fin 7) : Vec F S256x512 .f32 :=
  fun y => A (ix2 ⟨s.val * 256 + (y 0).val, by have h : (y 0).val < 256 := (y 0).isLt; omega⟩
    ⟨n.val * 512 + (y 1).val, by have h : (y 1).val < 512 := (y 1).isLt; omega⟩)

theorem point1_lt (t : Fin cfg1.N) : t.val < 259 := lt_of_lt_of_eq t.isLt (show cfg1.N = 259 from N_1)
theorem point0_lt (t : Fin cfg0.N) : t.val < 14 := lt_of_lt_of_eq t.isLt (show cfg0.N = 14 from N_0)

/-- The strip of `x` that a point of the second kernel works on. -/
def strip (t : Fin cfg1.N) : Fin 37 := ⟨t.val / 7, by have := point1_lt t; omega⟩
/-- The tile of columns that a point of the second kernel works on. -/
def ncol (t : Fin cfg1.N) : Fin 7 := ⟨t.val % 7, by omega⟩
/-- The block of `dy` that a point of the first kernel works on. -/
def col0 (t : Fin cfg0.N) : Fin 14 := ⟨t.val, point0_lt t⟩

theorem idx0 : ∀ t : Fin grid0.N, win0_0.index t = ![0, t.val] ∧ win0_1.index t = ![0, t.val] ∧ win0_2.index t = ![0, t.val] := by
  decide +kernel
theorem idx1 : ∀ t : Fin grid1.N, win1_0.index t = ![0, t.val / 7] ∧ win1_1.index t = ![0, 0] ∧ win1_2.index t = ![0, 0]
    ∧ win1_3.index t = ![t.val / 7, t.val % 7] ∧ win1_4.index t = ![t.val / 7, t.val % 7] ∧ win1_5.index t = ![0, t.val / 7]
    ∧ win1_6.index t = ![0, t.val / 7] := by
  decide +kernel

/-- The second kernel's condition holds at the first point of a strip. -/
theorem hcond1 : ∀ t : Fin cfg1.N, k1_cond1 (grid1.coords t) = 1#1 ↔ t.val % 7 = 0 :=
  (fun t => by
    have ht : t.val < 259 := Nat.lt_of_lt_of_eq t.isLt N_1
    have e0 : (grid1.coords t 0).val = t.val / 7 % 37 := Pipeline.Grid.coords_val t 0 (by decide) rfl
    have e1 : (grid1.coords t 1).val = t.val / 1 % 7 := Pipeline.Grid.coords_val t 1 (by decide) rfl
    simp only [k1_cond1, e0, e1]
    word_cmp
   : ∀ t : Fin grid1.N, k1_cond1 (grid1.coords t) = 1#1 ↔ t.val % 7 = 0)

variable (W : Dev nD → Valuation τ sig (Elt F))

/-! ## The first pipeline -/

/-- Window `w`'s block at point `t` of the first pipeline, read off its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem iblk0_0 (c : Dev nD) (t : Fin cfg0.N) : iblk0 W c 0 t = dyblk (W c (Proc.devRef .tc main_v1)) (col0 t) := by
  funext y
  unfold iblk0 dyblk
  blk_ext [(idx0 t).1, col0]

/-- The proof data of the first pipeline: what each window's buffer holds after the body. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => codes0 (dyblk (W c (Proc.devRef .tc main_v1)) (col0 t))
    | ⟨2, _⟩ => scale0 (dyblk (W c (Proc.devRef .tc main_v1)) (col0 t))
  Φ _ := Pipeline.scopedRest spec0 c
  q _ := fullShare
  owed _ := 0

theorem A0_eq (c : Dev nD) (w : Fin cfg0.W) : (dat0 W c).A w = W c (Proc.devRef .tc (Pipeline.arrRef spec0 w)) := by
  dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = codes0 (dyblk (W c (Proc.devRef .tc main_v1)) (col0 t)) := by dsimp only [dat0]
theorem after0_2 (c : Dev nD) (t : Fin cfg0.N) : (dat0 W c).after 2 t = scale0 (dyblk (W c (Proc.devRef .tc main_v1)) (col0 t)) := by dsimp only [dat0]

theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)

def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

/-- The first kernel's body at any point of its grid. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0]
  rw [show (dat0 W c).Φ t.succ = (dat0 W c).Φ t.castSucc from rfl,
    show (dat0 W c).owesAt () t.succ = (dat0 W c).owesAt () t.castSucc from rfl,
    after0_0, after0_1, after0_2, iblk0_0]
  iintro ⟨HΦ, Ho, ⟨%d0, H0⟩, ⟨%d1, H1⟩, ⟨%d2, H2⟩⟩
  iapply (sound0 c Set.univ (grid0.coords t) _ _ _ _ _ _ (dyblk (W c (Proc.devRef .tc main_v1)) (col0 t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

/-- The obligation of the first pipeline's body. -/
theorem obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.Kernel.Run

end
-- ==== Proof.KDats1.lean ====
/- The two pipelines' proof data over any contents of the arrays at entry, and the bodies' obligations at every point. -/
module

public import proofs.«01_k».proof.Proof.KDats0
public import Idealize.ShloMosaic.Lib.Pipeline.ValueKit

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The second pipeline -/

/-- Window `w`'s block at point `t` of the second pipeline, read off its array at entry. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The block of `x` at a point of the second pipeline. -/
abbrev xb (c : Dev nD) (t : Fin cfg1.N) : Vec F S8192x256 .bf16 := xblk (W c (Proc.devRef .tc main_v0)) (strip t)

theorem iblk1_0 (c : Dev nD) (t : Fin cfg1.N) : iblk1 W c 0 t = xb W c t := by
  funext y
  unfold iblk1 xb xblk
  blk_ext [(idx1 t).1, strip]
theorem iblk1_1 (c : Dev nD) (t : Fin cfg1.N) : iblk1 W c 1 t = W c (Proc.devRef .tc main_v2_0) := by
  funext y
  unfold iblk1
  blk_ext [(idx1 t).2.1]
theorem iblk1_2 (c : Dev nD) (t : Fin cfg1.N) : iblk1 W c 2 t = W c (Proc.devRef .tc main_v2_1) := by
  funext y
  unfold iblk1
  blk_ext [(idx1 t).2.2.1]
theorem iblk1_3 (c : Dev nD) (t : Fin cfg1.N) : iblk1 W c 3 t = mgblk (W c (Proc.devRef .tc main_arg2)) (strip t) (ncol t) := by
  funext y
  unfold iblk1 mgblk
  blk_ext [(idx1 t).2.2.2.1, strip, ncol]

/-- The tile written at a point of the second pipeline. -/
def tileAt (c : Dev nD) (t : Fin cfg1.N) : FVec F S256x512 .f32 :=
  wgradTile (grid1.coords t) (W c (Proc.devRef .tc main_v2_0)) (W c (Proc.devRef .tc main_v2_1))
    (mgblk (W c (Proc.devRef .tc main_arg2)) (strip t) (ncol t)) (xt1 (xb W c t)) (scol1 (xb W c t))

/-- The two kept buffers before point `n`: anything before the first, then the transposed codes and the scale column of the
    block of the point before. -/
def kept1 (c : Dev nD) : (n : ℕ) → n ≤ cfg1.N → sProp 𝕄
  | 0, _ => iprop((∃ d, owns (c : Thread nD τ) (Memref.whole cc1_scratch0) fullShare d) ∗ (∃ d, owns (c : Thread nD τ) (Memref.whole cc1_scratch1) fullShare d))
  | n + 1, h => iprop(owns (c : Thread nD τ) (Memref.whole cc1_scratch0) fullShare (xt1 (xb W c ⟨n, h⟩)) ∗ owns (c : Thread nD τ) (Memref.whole cc1_scratch1) fullShare (scol1 (xb W c ⟨n, h⟩)))

/-- The first pipeline's staging buffers, each at anything. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant of the second pipeline before point `n`. -/
def inv1 (c : Dev nD) (n : ℕ) (h : n ≤ cfg1.N) : sProp 𝕄 := iprop(other1 c ∗ kept1 W c n h)

/-- The proof data of the second pipeline. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => tileAt W c t
    | ⟨5, _⟩ => codes1 (xb W c t)
    | ⟨6, _⟩ => scale1 (xb W c t)
  Φ t := inv1 W c t.val (Nat.le_of_lt_succ t.isLt)
  q _ := fullShare
  owed _ := 0

theorem A1_eq (c : Dev nD) (w : Fin cfg1.W) : (dat1 W c).A w = W c (Proc.devRef .tc (Pipeline.arrRef spec1 w)) := by
  dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = tileAt W c t := by dsimp only [dat1]
theorem after1_5 (c : Dev nD) (t : Fin cfg1.N) : (dat1 W c).after 5 t = codes1 (xb W c t) := by dsimp only [dat1]
theorem after1_6 (c : Dev nD) (t : Fin cfg1.N) : (dat1 W c).after 6 t = scale1 (xb W c t) := by dsimp only [dat1]

theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

/-- Inside a strip the codes block still holds what the strip's first point wrote. -/
theorem before1_5 (c : Dev nD) : ∀ (n : ℕ) (t : Fin cfg1.N), t.val = n → t.val % 7 ≠ 0 → ∀ d, (dat1 W c).before 5 t d = codes1 (xb W c t) := by
  intro n
  induction n with
  | zero => intro t ht h; exact absurd (by rw [ht]) h
  | succ n ih =>
    intro t ht h d
    have hlt : t.val - 1 < cfg1.N := Nat.lt_of_le_of_lt (Nat.sub_le _ _) t.isLt
    have hs : strip ⟨t.val - 1, hlt⟩ = strip t := Fin.ext (by show (t.val - 1) / 7 = t.val / 7; omega)
    have hfl : (cfg1.win 5).flush ⟨t.val - 1, hlt⟩ = false := by
      rw [Bool.eq_false_iff]; intro hf
      have h6 : (t.val - 1) % 7 = 6 := (flush1_5 ⟨t.val - 1, hlt⟩).mp hf
      omega
    rw [(dat1 W c).before_of_pos 5 t (by omega) ((cfg1.win 5).fetch_out rfl t), hfl, if_neg Bool.false_ne_true]
    by_cases h0 : (t.val - 1) % 7 = 0
    · have hi : cfg1.idle 5 (cfg1.grid.coords ⟨t.val - 1, hlt⟩) = false := by
        show (!(k1_cond1 (grid1.coords ⟨t.val - 1, hlt⟩) == 1#1)) = false
        rw [(hcond1 ⟨t.val - 1, hlt⟩).mpr h0]; rfl
      unfold Dat.left; rw [hi]
      show (dat1 W c).kept 5 ⟨t.val - 1, hlt⟩ d = _
      unfold Dat.kept
      rw [Pipeline.fill_of_clip_none 5 _ (fun a => rfl) d ((dat1 W c).after 5 ⟨t.val - 1, hlt⟩), Window.fill_cut, after1_5]
      unfold xb; rw [hs]
    · have hi : cfg1.idle 5 (cfg1.grid.coords ⟨t.val - 1, hlt⟩) = true := by
        show (!(k1_cond1 (grid1.coords ⟨t.val - 1, hlt⟩) == 1#1)) = true
        have hne : ¬ k1_cond1 (grid1.coords ⟨t.val - 1, hlt⟩) = 1#1 := fun hc => h0 ((hcond1 ⟨t.val - 1, hlt⟩).mp hc)
        rw [beq_eq_false_iff_ne.mpr hne]; rfl
      unfold Dat.left; rw [hi]
      show (dat1 W c).before 5 ⟨t.val - 1, hlt⟩ d = _
      rw [ih ⟨t.val - 1, hlt⟩ (by show t.val - 1 = n; omega) h0 d]
      unfold xb; rw [hs]

/-- Inside a strip the scale block still holds what the strip's first point wrote. -/
theorem before1_6 (c : Dev nD) : ∀ (n : ℕ) (t : Fin cfg1.N), t.val = n → t.val % 7 ≠ 0 → ∀ d, (dat1 W c).before 6 t d = scale1 (xb W c t) := by
  intro n
  induction n with
  | zero => intro t ht h; exact absurd (by rw [ht]) h
  | succ n ih =>
    intro t ht h d
    have hlt : t.val - 1 < cfg1.N := Nat.lt_of_le_of_lt (Nat.sub_le _ _) t.isLt
    have hs : strip ⟨t.val - 1, hlt⟩ = strip t := Fin.ext (by show (t.val - 1) / 7 = t.val / 7; omega)
    have hfl : (cfg1.win 6).flush ⟨t.val - 1, hlt⟩ = false := by
      rw [Bool.eq_false_iff]; intro hf
      have h6 : (t.val - 1) % 7 = 6 := (flush1_6 ⟨t.val - 1, hlt⟩).mp hf
      omega
    rw [(dat1 W c).before_of_pos 6 t (by omega) ((cfg1.win 6).fetch_out rfl t), hfl, if_neg Bool.false_ne_true]
    by_cases h0 : (t.val - 1) % 7 = 0
    · have hi : cfg1.idle 6 (cfg1.grid.coords ⟨t.val - 1, hlt⟩) = false := by
        show (!(k1_cond1 (grid1.coords ⟨t.val - 1, hlt⟩) == 1#1)) = false
        rw [(hcond1 ⟨t.val - 1, hlt⟩).mpr h0]; rfl
      unfold Dat.left; rw [hi]
      show (dat1 W c).kept 6 ⟨t.val - 1, hlt⟩ d = _
      unfold Dat.kept
      rw [Pipeline.fill_of_clip_none 6 _ (fun a => rfl) d ((dat1 W c).after 6 ⟨t.val - 1, hlt⟩), Window.fill_cut, after1_6]
      unfold xb; rw [hs]
    · have hi : cfg1.idle 6 (cfg1.grid.coords ⟨t.val - 1, hlt⟩) = true := by
        show (!(k1_cond1 (grid1.coords ⟨t.val - 1, hlt⟩) == 1#1)) = true
        have hne : ¬ k1_cond1 (grid1.coords ⟨t.val - 1, hlt⟩) = 1#1 := fun hc => h0 ((hcond1 ⟨t.val - 1, hlt⟩).mp hc)
        rw [beq_eq_false_iff_ne.mpr hne]; rfl
      unfold Dat.left; rw [hi]
      show (dat1 W c).before 6 ⟨t.val - 1, hlt⟩ d = _
      rw [ih ⟨t.val - 1, hlt⟩ (by show t.val - 1 = n; omega) h0 d]
      unfold xb; rw [hs]

def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d)))

def bodyPost1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t
    ∗ (dat1 W c).leavesExact 6 t)

theorem Phi1_castSucc (c : Dev nD) (t : Fin cfg1.N) : (dat1 W c).Φ t.castSucc = inv1 W c t.val (Nat.le_of_lt t.isLt) := by
  dsimp only [dat1]; exact Pipeline.Dat.Φ_castSucc (inv1 W c) t
theorem Phi1_succ (c : Dev nD) (t : Fin cfg1.N) : (dat1 W c).Φ t.succ = inv1 W c (t.val + 1) t.isLt := by
  dsimp only [dat1]; rfl

/-- What the kept buffers hold before a point: something. -/
theorem kept1_any (c : Dev nD) (n : ℕ) (h : n ≤ cfg1.N) :
    kept1 W c n h ⊢ iprop((∃ d, owns (c : Thread nD τ) (Memref.whole cc1_scratch0) fullShare d) ∗ (∃ d, owns (c : Thread nD τ) (Memref.whole cc1_scratch1) fullShare d)) := by
  cases n with
  | zero => exact .rfl
  | succ n =>
    unfold kept1
    iintro ⟨H0, H1⟩
    isplitl [H0]
    · iexists _; iexact H0
    iexists _; iexact H1

/-- Inside a strip they hold the strip's codes and scale. -/
theorem kept1_strip (c : Dev nD) (t : Fin cfg1.N) (h : t.val % 7 ≠ 0) :
    kept1 W c t.val (Nat.le_of_lt t.isLt) = iprop(owns (c : Thread nD τ) (Memref.whole cc1_scratch0) fullShare (xt1 (xb W c t)) ∗ owns (c : Thread nD τ) (Memref.whole cc1_scratch1) fullShare (scol1 (xb W c t))) := by
  obtain ⟨n, hn⟩ := t
  cases n with
  | zero => exact absurd rfl h
  | succ n =>
    have hs : strip ⟨n, Nat.lt_of_succ_lt hn⟩ = strip ⟨n + 1, hn⟩ := Fin.ext (by show n / 7 = (n + 1) / 7; have h' : (n + 1) % 7 ≠ 0 := h; omega)
    have hb : xb W c ⟨n, Nat.lt_of_succ_lt hn⟩ = xb W c ⟨n + 1, hn⟩ := by unfold xb; rw [hs]
    rw [← hb]
    rfl

theorem leaves1_live (c : Dev nD) (w : Fin cfg1.W) (t : Fin cfg1.N) (h : cfg1.idle w (grid1.coords t) = false) :
    (dat1 W c).leavesExact w t = owns (c : Thread nD τ) ((cfg1.win w).stage (cfg1.slots t w)) fullShare ((dat1 W c).after w t) := by
  unfold Dat.leavesExact; rw [h]

/-- What a point inside a strip leaves in the codes block's buffer. -/
theorem leaves1_5 (c : Dev nD) (t : Fin cfg1.N) (h : t.val % 7 ≠ 0) :
    owns (c : Thread nD τ) (st1_5 t) fullShare (codes1 (xb W c t)) ⊢ ((dat1 W c).leavesExact 5 t : sProp 𝕄) := by
  have hi : cfg1.idle 5 (cfg1.grid.coords t) = true := by
    show (!(k1_cond1 (grid1.coords t) == 1#1)) = true
    have hne : ¬ k1_cond1 (grid1.coords t) = 1#1 := fun hc => h ((hcond1 t).mp hc)
    rw [beq_eq_false_iff_ne.mpr hne]; rfl
  cases hf : (cfg1.win 5).flush t with
  | false =>
    rw [(dat1 W c).leavesExact_idle 5 t hi hf]
    iintro H
    iexists (codes1 (xb W c t))
    rw [before1_5 W c t.val t rfl h]
    iexact H
  | true =>
    rw [show (dat1 W c).leavesExact 5 t = owns (c : Thread nD τ) (st1_5 t) fullShare ((dat1 W c).after 5 t) from by
      unfold Dat.leavesExact; rw [hi, hf], after1_5]

/-- What a point inside a strip leaves in the scale block's buffer. -/
theorem leaves1_6 (c : Dev nD) (t : Fin cfg1.N) (h : t.val % 7 ≠ 0) :
    owns (c : Thread nD τ) (st1_6 t) fullShare (scale1 (xb W c t)) ⊢ ((dat1 W c).leavesExact 6 t : sProp 𝕄) := by
  have hi : cfg1.idle 6 (cfg1.grid.coords t) = true := by
    show (!(k1_cond1 (grid1.coords t) == 1#1)) = true
    have hne : ¬ k1_cond1 (grid1.coords t) = 1#1 := fun hc => h ((hcond1 t).mp hc)
    rw [beq_eq_false_iff_ne.mpr hne]; rfl
  cases hf : (cfg1.win 6).flush t with
  | false =>
    rw [(dat1 W c).leavesExact_idle 6 t hi hf]
    iintro H
    iexists (scale1 (xb W c t))
    rw [before1_6 W c t.val t rfl h]
    iexact H
  | true =>
    rw [show (dat1 W c).leavesExact 6 t = owns (c : Thread nD τ) (st1_6 t) fullShare ((dat1 W c).after 6 t) from by
      unfold Dat.leavesExact; rw [hi, hf], after1_6]

set_option maxHeartbeats 1600000 in
/-- The second kernel's body at any point of its grid. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3]
  rw [Phi1_castSucc, Phi1_succ, show (dat1 W c).owesAt () t.succ = (dat1 W c).owesAt () t.castSucc from rfl]
  rw [leaves1_live W c 0 t rfl, leaves1_live W c 1 t rfl, leaves1_live W c 2 t rfl, leaves1_live W c 3 t rfl, leaves1_live W c 4 t rfl,
    after1_0, after1_1, after1_2, after1_3, after1_4, iblk1_0, iblk1_1, iblk1_2, iblk1_3]
  unfold inv1
  by_cases h0 : t.val % 7 = 0
  · have hc := (hcond1 t).mpr h0
    have hl : cfg1.idle 5 (cfg1.grid.coords t) = false := by
      show (!(k1_cond1 (grid1.coords t) == 1#1)) = false
      rw [hc]; rfl
    have hl' : cfg1.idle 6 (cfg1.grid.coords t) = false := hl
    rw [leaves1_live W c 5 t hl, leaves1_live W c 6 t hl', after1_5, after1_6]
    iintro ⟨⟨Hr, Hk⟩, Ho, ⟨%d0, H0⟩, ⟨%d1, H1⟩, ⟨%d2, H2⟩, ⟨%d3, H3⟩, ⟨%d4, H4⟩, ⟨%d5, H5⟩, ⟨%d6, H6⟩⟩
    ihave Hk' := (kept1_any W c t.val (Nat.le_of_lt t.isLt)) $$ Hk
    icases Hk' with ⟨HS0, HS1⟩
    iapply (sound1_A c Set.univ (grid1.coords t) _ _ _ _ _ _ _ _ _ _ _ _ _ _ _ _ _ _ hc (xb W c t) (W c (Proc.devRef .tc main_v2_0)) (W c (Proc.devRef .tc main_v2_1)) (mgblk (W c (Proc.devRef .tc main_arg2)) (strip t) (ncol t)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [Hr HS0 HS1]
    · isplitl [Hr]; · iexact Hr
      unfold kept1
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬ k1_cond1 (grid1.coords t) = 1#1 := fun hc => h0 ((hcond1 t).mp hc)
    rw [kept1_strip W c t h0]
    simp only [before1_5 W c t.val t rfl h0, before1_6 W c t.val t rfl h0]
    iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
    iapply (sound1_B c Set.univ (grid1.coords t) _ _ _ _ _ _ _ _ _ _ _ _ _ _ _ _ _ _ hc (xb W c t) (W c (Proc.devRef .tc main_v2_0)) (W c (Proc.devRef .tc main_v2_1)) (mgblk (W c (Proc.devRef .tc main_arg2)) (strip t) (ncol t)) (codes1 (xb W c t)) (scale1 (xb W c t)) (xt1 (xb W c t)) (scol1 (xb W c t)) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [Hr HS0 HS1]
    · isplitl [Hr]; · iexact Hr
      unfold kept1
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]
    · iapply (leaves1_5 W c t h0); iexact H5
    iapply (leaves1_6 W c t h0); iexact H6

theorem defs₀_row1 (t : Fin cfg1.N) :
    defs₀ (F := F) .tc cfg1.body (cfg1.bodyArgs t (cfg1.slots t)) = bodyAt1 t := by
  unfold defs₀; rw [Defs.onTc_tc]

/-- The obligation of the second pipeline's body. -/
theorem obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.Kernel.Run

end
-- ==== Proof.KRun.lean ====
/- The run of the program: every result buffer at the pipelines' final arrays, the arguments as launched, the semaphores at zero. -/
module

public import proofs.«01_k».proof.Proof.KDats1
public import proofs.«01_k».proof.Proof.Gen.Kernel.Regions
public import Idealize.ShloMosaic.Lib.Pipeline.RegionArraysS
public import Idealize.ShloMosaic.Lib.Pipeline.FrameTail

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The unscoped buffers when the first pipeline starts. -/
def W1 : Dev nD → Valuation τ sig (Elt F) := fun c => V1 m c
/-- The unscoped buffers when the second pipeline starts. -/
def W2 : Dev nD → Valuation τ sig (Elt F) := fun c => Pipeline.afterRegion (dat0 (W1 m) c) (W1 m c)
/-- The unscoped buffers at the end. -/
def W3 : Dev nD → Valuation τ sig (Elt F) := fun c => Pipeline.afterRegion (dat1 (W2 m) c) (W2 m c)

/-- The two pipelines' proof data. -/
def pdats : (p : Fin 2) → (c : Dev nD) → Dat τ (Elt F) Unit ℕ (UR sig nD τ) ℕ (cfgs p) c
  | ⟨0, _⟩, c => dat0 (W1 m) c
  | ⟨1, _⟩, c => dat1 (W2 m) c

/-- The levels: every cell of a TensorCore at the single index. -/
def LL : GSem nD τ sig → Finset Unit := fun g => if g.1.2 = .tc then {()} else ∅
/-- Every level is 0. -/
def lvl : GSem nD τ sig → Unit → ℕ := fun _ _ => 0

/-- What a core keeps between the items beside its buffers: it owes nothing. -/
def rest (c : Dev nD) : sProp 𝕄 :=
  iprop((∃ Wd, owes (c : Thread nD τ) (0 : CellTallies nD τ sig Unit) Wd) ∗ (BI.emp : sProp 𝕄) ∗ (BI.emp : sProp 𝕄))

theorem cut (p : Fin 2) : Pipeline.LevelCut (nD := nD) (τ := τ) (pcfgs (F := F)) adm () LL lvl p (fun _ => 0) (fun _ => 0) where
  hι c w s := by unfold LL; rw [if_pos rfl]; exact Finset.mem_singleton.mpr rfl
  hιb c w s := le_refl _
  hD c g i h := absurd h (by simp)

theorem hin1 (c : Dev nD) : iprop((Pipeline.scopedRest spec1 c : sProp 𝕄) ∗ (BI.emp : sProp 𝕄)) ⊢ (dat1 (W2 m) c).Φ 0 := by
  show _ ⊢ inv1 (W2 m) c 0 (Nat.zero_le _)
  rw [scopedRest1_eq]
  unfold inv1 other1 kept1
  iintro ⟨⟨H0, H1, H2, H3, H4, H5, ⟨%f, H6⟩, ⟨%g, H7⟩⟩, -⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · iexists f
    rw [owns_whole (c : Thread nD τ) cc1_scratch0 fullShare f]
    iexact H6
  iexists g
  rw [owns_whole (c : Thread nD τ) cc1_scratch1 fullShare g]
  iexact H7

theorem hout1 (c : Dev nD) : (dat1 (W2 m) c).Φ (Fin.last cfg1.N) ⊢ iprop((Pipeline.scopedRest spec1 c : sProp 𝕄) ∗ (BI.emp : sProp 𝕄)) := by
  show inv1 (W2 m) c cfg1.N (le_refl _) ⊢ _
  rw [scopedRest1_eq]
  unfold inv1 other1
  iintro ⟨⟨H0, H1, H2, H3, H4, H5⟩, Hk⟩
  ihave Hk' := (kept1_any (W2 m) c cfg1.N (le_refl _)) $$ Hk
  icases Hk' with ⟨⟨%f, H6⟩, ⟨%g, H7⟩⟩
  isplitl
  · isplitl [H0]; · iexact H0
    isplitl [H1]; · iexact H1
    isplitl [H2]; · iexact H2
    isplitl [H3]; · iexact H3
    isplitl [H4]; · iexact H4
    isplitl [H5]; · iexact H5
    isplitl [H6]
    · iexists f
      rw [← owns_whole (c : Thread nD τ) cc1_scratch0 fullShare f]
      iexact H6
    iexists g
    rw [← owns_whole (c : Thread nD τ) cc1_scratch1 fullShare g]
    iexact H7
  iempintro

theorem hin0 (c : Dev nD) : iprop((Pipeline.scopedRest spec0 c : sProp 𝕄) ∗ (BI.emp : sProp 𝕄)) ⊢ (dat0 (W1 m) c).Φ 0 := by
  show _ ⊢ (Pipeline.scopedRest spec0 c : sProp 𝕄)
  iintro ⟨H, -⟩
  iexact H

theorem hout0 (c : Dev nD) : (dat0 (W1 m) c).Φ (Fin.last cfg0.N) ⊢ iprop((Pipeline.scopedRest spec0 c : sProp 𝕄) ∗ (BI.emp : sProp 𝕄)) := by
  show (Pipeline.scopedRest spec0 c : sProp 𝕄) ⊢ _
  iintro H
  isplitl; · iexact H
  iempintro

/-- The first pipeline as a segment of the run. -/
def R0 : RegionSeg (pcfgs (F := F)) adm (pdats m) () defs₀ Variants.none LL lvl 0 :=
  RegionSeg.ofHeldIn pcfgs adm (pdats m) () defs₀ Variants.none LL lvl 0 (fun _ => 0) (Pipeline.ucRefs τ sig) (fun _ => BI.emp) (fun _ => BI.emp)
    launch0.toP rfl (fun c => (obligation0 (W1 m) c).loose) (fun _ _ => rfl) (fun _ => rfl) (fun c => (dat0 (W1 m) c).share_full fun _ => rfl)
    (hin0 m) (hout0 m) (fun _ => 0) (cut 0) (fun _ => BI.emp) (W1 m) (fun c w => A0_eq (W1 m) c w)

/-- The second pipeline as a segment of the run. -/
def R1 : RegionSeg (pcfgs (F := F)) adm (pdats m) () defs₀ Variants.none LL lvl 1 :=
  RegionSeg.ofHeldIn pcfgs adm (pdats m) () defs₀ Variants.none LL lvl 1 (fun _ => 0) (Pipeline.ucRefs τ sig) (fun _ => BI.emp) (fun _ => BI.emp)
    launch1.toP rfl (fun c => (obligation1 (W2 m) c).loose) (fun _ _ => rfl) (fun _ => rfl) (fun c => (dat1 (W2 m) c).share_full fun _ => rfl)
    (hin1 m) (hout1 m) (fun _ => 0) (cut 1) (fun _ => BI.emp) (W2 m) (fun c w => A1_eq (W2 m) c w)

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

theorem W2_eq (c : Dev nD) : W2 m c = Pipeline.afterRegion (pdats m 0 c) (W1 m c) := by
  unfold W2
  rw [show pdats m 0 c = dat0 (W1 m) c from rfl]
theorem W3_eq (c : Dev nD) : W3 m c = Pipeline.afterRegion (pdats m 1 c) (W2 m c) := by
  unfold W3
  rw [show pdats m 1 c = dat1 (W2 m) c from rfl]

theorem enter0 (c : Dev nD) : iprop(StableHlo.held (c.tc : Thread nD τ) (Pipeline.ucRefs τ sig) (W1 m c) ∗ rest c) ⊢ (R0 m).pre c := by
  unfold R0 rest
  exact RegionSeg.ofHeldIn_pre (pcs := pcfgs (F := F)) (a := adm) (pdats := pdats m) (ι := ()) (defs₀ := defs₀) (𝒱₀ := Variants.none) (L := LL) (lv := lvl) (p := 0) (D := fun _ => 0) (X := fun _ => BI.emp) (Y := fun _ => BI.emp) (R := fun _ => BI.emp) (W := W1 m) (b := fun _ => 0) (sub0 (F := F)) c
theorem leave0 (c : Dev nD) : (R0 m).post c ⊢ iprop(StableHlo.held (c.tc : Thread nD τ) (Pipeline.ucRefs τ sig) (W2 m c) ∗ rest c) := by
  rw [W2_eq]
  unfold R0 rest
  exact RegionSeg.ofHeldIn_post (D := fun _ => 0) (sub0 (F := F)) c
theorem enter1 (c : Dev nD) : iprop(StableHlo.held (c.tc : Thread nD τ) (Pipeline.ucRefs τ sig) (W2 m c) ∗ rest c) ⊢ (R1 m).pre c := by
  unfold R1 rest
  exact RegionSeg.ofHeldIn_pre (pcs := pcfgs (F := F)) (a := adm) (pdats := pdats m) (ι := ()) (defs₀ := defs₀) (𝒱₀ := Variants.none) (L := LL) (lv := lvl) (p := 1) (D := fun _ => 0) (X := fun _ => BI.emp) (Y := fun _ => BI.emp) (R := fun _ => BI.emp) (W := W2 m) (b := fun _ => 0) (sub1 (F := F)) c
theorem leave1 (c : Dev nD) : (R1 m).post c ⊢ iprop(StableHlo.held (c.tc : Thread nD τ) (Pipeline.ucRefs τ sig) (W3 m c) ∗ rest c) := by
  rw [W3_eq]
  unfold R1 rest
  exact RegionSeg.ofHeldIn_post (D := fun _ => 0) (sub1 (F := F)) c

theorem rest_owes (c : Dev nD) : (rest c : sProp 𝕄) ⊢ iprop(∃ Wd, owes (c : Thread nD τ) (0 : CellTallies nD τ sig Unit) Wd) := by
  unfold rest
  iintro ⟨H, -, -⟩
  iexact H

set_option backward.isDefEq.respectTransparency.types false in
/-- Every weakly fair run of the program ends, with every unscoped buffer of every core at `W3` and every semaphore at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W3 m c b) ∧ r.2.sem = fun _ => 0) := by
  refine Pipeline.θ_run_regions_kit_dev_sems (pcfgs (F := F)) adm (pdats m) () cellOf_inj emb₁ defs₀ Variants.none LL lvl m ρ main
    (segs m Variants.none LL lvl (fun _ => rest) () (pdats m) (R0 m) (R1 m))
    (fun c Q => by
      rewrite [main_chain c, Seg.run_eq_chain,
        show (segs m Variants.none LL lvl (fun _ => rest) () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun g h => by unfold LL; rw [if_neg h])
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (W3 m c))
    (hch := fun c => ⟨.rfl, enter0 m c, (leave0 m c).trans (enter1 m c), (leave1 m c).trans (sep_mono .rfl (rest_owes c))⟩)
    (hinit := ?_) (QY := fun c s => ∀ b ∈ Pipeline.ucRefs τ sig, s.mem ((c.tc : Thread nD τ).1, b) = W3 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach LL lvl fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [HO]; · iexists _; iexact HO
    isplitl <;> iempintro
  · unfold StableHlo.held
    iintro ⟨Hh, HSI⟩
    ihave Hr := (pointsTo_read_all (Pipeline.ucRefs τ sig) (fun b => ((c.tc : Thread nD τ).1, b)) (W3 m c) s') $$ [Hh HSI]
    · isplitl [Hh] <;> iassumption
    imodintro
    iexact Hr

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

theorem inj0 : Function.Injective (Pipeline.arrRef spec0) := winFacts0.arr_inj
theorem inj1 : Function.Injective (Pipeline.arrRef spec1) := winFacts1.arr_inj

/-- A buffer neither pipeline writes holds at the end what the host operations left in it. -/
theorem W3_of (c : Dev nD) (r : Ref sig .tc) (h0 : ∀ w, Pipeline.arrRef spec0 w = r → (cfg0.win w).isOut = false)
    (h1 : ∀ w, Pipeline.arrRef spec1 w = r → (cfg1.win w).isOut = false) : W3 m c (Proc.devRef .tc r) = V1 m c (Proc.devRef .tc r) :=
  (Pipeline.afterRegion_keeps (dat1 (W2 m) c) (W2 m c) inj1 (A1_eq (W2 m) c) r h1).trans
    (Pipeline.afterRegion_keeps (dat0 (W1 m) c) (W1 m c) inj0 (A0_eq (W1 m) c) r h0)
theorem W2_of (c : Dev nD) (r : Ref sig .tc) (h0 : ∀ w, Pipeline.arrRef spec0 w = r → (cfg0.win w).isOut = false) :
    W2 m c (Proc.devRef .tc r) = V1 m c (Proc.devRef .tc r) :=
  Pipeline.afterRegion_keeps (dat0 (W1 m) c) (W1 m c) inj0 (A0_eq (W1 m) c) r h0

theorem W3_main_arg0 (c : Dev nD) : W3 m c (Proc.devRef .tc main_arg0) = m ((c : Thread nD τ).loc main_arg0) :=
  (W3_of m c main_arg0 (by decide) (by decide)).trans ((V1_of m c main_arg0 (by decide)).trans rfl)
theorem W3_main_arg1 (c : Dev nD) : W3 m c (Proc.devRef .tc main_arg1) = m ((c : Thread nD τ).loc main_arg1) :=
  (W3_of m c main_arg1 (by decide) (by decide)).trans ((V1_of m c main_arg1 (by decide)).trans rfl)
theorem W3_main_arg2 (c : Dev nD) : W3 m c (Proc.devRef .tc main_arg2) = m ((c : Thread nD τ).loc main_arg2) :=
  (W3_of m c main_arg2 (by decide) (by decide)).trans ((V1_of m c main_arg2 (by decide)).trans rfl)

/-- The results of the first pipeline at the end. -/
theorem W2_codes (c : Dev nD) : W2 m c (Proc.devRef .tc main_v2_0) = (dat0 (W1 m) c).arrAt 1 cfg0.N := Pipeline.afterRegion_arr (dat0 (W1 m) c) (W1 m c) inj0 1
theorem W2_scale (c : Dev nD) : W2 m c (Proc.devRef .tc main_v2_1) = (dat0 (W1 m) c).arrAt 2 cfg0.N := Pipeline.afterRegion_arr (dat0 (W1 m) c) (W1 m c) inj0 2
theorem W3_codes (c : Dev nD) : W3 m c (Proc.devRef .tc main_v2_0) = W2 m c (Proc.devRef .tc main_v2_0) :=
  Pipeline.afterRegion_keeps (dat1 (W2 m) c) (W2 m c) inj1 (A1_eq (W2 m) c) main_v2_0 (by decide)
theorem W3_scale (c : Dev nD) : W3 m c (Proc.devRef .tc main_v2_1) = W2 m c (Proc.devRef .tc main_v2_1) :=
  Pipeline.afterRegion_keeps (dat1 (W2 m) c) (W2 m c) inj1 (A1_eq (W2 m) c) main_v2_1 (by decide)
/-- The results of the second pipeline at the end. -/
theorem W3_out (c : Dev nD) : W3 m c (Proc.devRef .tc main_v3_0) = (dat1 (W2 m) c).arrAt 4 cfg1.N := Pipeline.afterRegion_arr (dat1 (W2 m) c) (W2 m c) inj1 4
theorem W3_xcodes (c : Dev nD) : W3 m c (Proc.devRef .tc main_v3_1) = (dat1 (W2 m) c).arrAt 5 cfg1.N := Pipeline.afterRegion_arr (dat1 (W2 m) c) (W2 m c) inj1 5
theorem W3_xscale (c : Dev nD) : W3 m c (Proc.devRef .tc main_v3_2) = (dat1 (W2 m) c).arrAt 6 cfg1.N := Pipeline.afterRegion_arr (dat1 (W2 m) c) (W2 m c) inj1 6

/-- The frame: every run ends with the arguments as launched and every semaphore at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (run m ρ).mono fun r h => ⟨fun c => ⟨(h.1 c _ (mem_uc main_arg0 rfl)).trans (W3_main_arg0 m c),
    (h.1 c _ (mem_uc main_arg1 rfl)).trans (W3_main_arg1 m c), (h.1 c _ (mem_uc main_arg2 rfl)).trans (W3_main_arg2 m c)⟩, h.2⟩

end Cert.Kernel.Run
-- ==== Proof.IBodies.lean ====
/- The two kernel bodies on whole buffers: what each leaves in every buffer it writes, as functions of what it reads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first kernel's search finds of a block of `dy`: the exponents. -/
def exp0 (x : Vec F S8192x256 .bf16) : IVec S1x256 32 := k0_pay9 (k0_pay6 x) (k0_pay7 x) (k0_pay8 x) 16#32
/-- Where that exponent is 0 or 255. -/
def special0 (x : Vec F S8192x256 .bf16) : IVec S1x256 1 := k0_pay10 (k0_pay6 x) (k0_pay7 x) (k0_pay8 x) 16#32
/-- The scale the first kernel writes for a block of `dy`. -/
def scale0 (x : Vec F S8192x256 .bf16) : FVec F S1x256 .f32 := k0_pay2 (k0_pay5 x) (exp0 x) (special0 x) (k0_pay11 (F := F))
/-- The codes the first kernel writes for a block of `dy`. -/
def codes0 (x : Vec F S8192x256 .bf16) : FVec F S8192x256 .fp8e5m2 := k0_pay3 (k0_pay4 x) (k0_pay5 x) (exp0 x) (special0 x) (k0_pay11 (F := F))

theorem cover0_1 (p0 : Vec F S8192x256 .fp8e5m2) (y : S8192x256.Idx) :
    ∃ pc ∈ ([⟨Rect.unit (s := S8192x256) ![0, 0] S8192x256.size inb_S8192x256_S8192x256_0_0, p0⟩] : List (View.Piece (Elt F) S8192x256 .fp8e5m2)), y ∈ pc.1.set :=
  View.cover_of_tiled _ S8192x256.size (by rfl) y
theorem cover0_2 (p0 : Vec F S1x256 .f32) (y : S1x256.Idx) :
    ∃ pc ∈ ([⟨Rect.unit (s := S1x256) ![0, 0] S1x256.size inb_S1x256_S1x256_0_0, p0⟩] : List (View.Piece (Elt F) S1x256 .f32)), y ∈ pc.1.set :=
  View.cover_of_tiled _ S1x256.size (by rfl) y

/-- The offsets of a whole-buffer access are zero. -/
theorem off2 : (![0, 0] : Fin 2 → ℕ) = fun _ => 0 := by decide

set_option maxHeartbeats 1000000 in
/-- The first kernel's body on whole staging buffers: the block read is left as it was, the codes and the scale are
    written at `codes0` and `scale0` of it. -/
theorem sound0 (c : Dev nD) (E : Set ℕ) (i : grid0.Coords) (arg1 : Memref sig .tc .vmem S8192x256 .bf16) (harg1 : arg1.IsWhole) (arg2 : Memref sig .tc .vmem S8192x256 .fp8e5m2) (harg2 : arg2.IsWhole) (arg3 : Memref sig .tc .vmem S1x256 .f32) (harg3 : arg3.IsWhole)
    (x0 : Vec F S8192x256 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (codes0 x0) ∗ owns (c : Thread nD τ) arg3 fullShare (scale0 x0)) -∗ K ⟨⟩))
      ⊢ wp frame (wpE (defs₀ (F := F)) Variants.none c none) E (cc0_quant_dy i arg1 harg1 arg2 harg2 arg3 harg3) K := by
  simp only [cc0_quant_dy_eq_skeleton]; unfold cc0_quant_dy_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    refine (View.canon_unit_zero off2 _ _).trans ?_
    exact congrArg codes0 (View.ld_unit_zero off2 inb_S8192x256_S8192x256_0_0 (arg1.view.read (Elt F) f0))
  iexists _; isplitr
  swap; · iexact H2
  ipureintro
  refine (View.read_writes_eq_canon _ _ _ (cover0_2 _)).trans ?_
  refine (View.canon_unit_zero off2 _ _).trans ?_
  exact congrArg scale0 (View.ld_unit_zero off2 inb_S8192x256_S8192x256_0_0 (arg1.view.read (Elt F) f0))

/-- What the second kernel's search finds of a block of `x`: the exponents. -/
def exp1 (x : Vec F S8192x256 .bf16) : IVec S1x256 32 := k1_pay10 (k1_pay6 x) (k1_pay7 x) (k1_pay8 x) k1_pay9
/-- Where that exponent is 0 or 255. -/
def special1 (x : Vec F S8192x256 .bf16) : IVec S1x256 1 := k1_pay11 (k1_pay6 x) (k1_pay7 x) (k1_pay8 x) k1_pay9
/-- Where the block's column is all zero. -/
def zero1 (x : Vec F S8192x256 .bf16) : IVec S1x256 1 := k1_pay12 (k1_pay5 x)
/-- The scale the second kernel writes for a block of `x`. -/
def scale1 (x : Vec F S8192x256 .bf16) : FVec F S1x256 .f32 := k1_pay14 (exp1 x) (special1 x) (zero1 x)
/-- The scale as the kernel keeps it for the block's products: a column, repeated over 128 lanes. -/
def scol1 (x : Vec F S8192x256 .bf16) : FVec F S256x128 .f32 := k1_pay15 (exp1 x) (special1 x) (zero1 x)
/-- The scaled and clipped block, before it is narrowed to codes. -/
def pre1 (x : Vec F S8192x256 .bf16) : FVec F S8192x256 .bf16 := k1_pay16 (k1_pay4 x) (exp1 x) (special1 x) (zero1 x)
/-- The codes the second kernel writes for a block of `x`. -/
def codes1 (x : Vec F S8192x256 .bf16) : FVec F S8192x256 .fp8e4m3 := k1_pay1 (pre1 x)
/-- The codes transposed, as the kernel keeps them for the block's products. -/
def xt1 (x : Vec F S8192x256 .bf16) : FVec F S256x8192 .fp8e4m3 := k1_pay2 (pre1 x)
/-- The tile of the gradient the second kernel writes at a point: from the codes and scales of `dy` (whole arrays), the
    tile of the gradient to add to, and the two buffers kept of the block of `x`. -/
def wgradTile (i : grid1.Coords) (x1 : Vec F S8192x3584 .fp8e5m2) (x2 : Vec F S1x3584 .f32) (x3 : Vec F S256x512 .f32)
    (s0 : Vec F S256x8192 .fp8e4m3) (s1 : Vec F S256x128 .f32) : FVec F S256x512 .f32 :=
  k1_pay3 (View.ld x1 (Rect.unit (s := S8192x3584) (k1_off1 i) S8192x512.size (k1_off1_inb i))) s0 s1
    (View.ld x2 (Rect.unit (s := S1x3584) (k1_off2 i) S1x512.size (k1_off2_inb i))) x3

theorem cover1_4 (p0 : Vec F S256x512 .f32) (y : S256x512.Idx) :
    ∃ pc ∈ ([⟨Rect.unit (s := S256x512) ![0, 0] S256x512.size inb_S256x512_S256x512_0_0, p0⟩] : List (View.Piece (Elt F) S256x512 .f32)), y ∈ pc.1.set :=
  View.cover_of_tiled _ S256x512.size (by rfl) y
theorem cover1_5 (p0 : Vec F S8192x256 .fp8e4m3) (y : S8192x256.Idx) :
    ∃ pc ∈ ([⟨Rect.unit (s := S8192x256) ![0, 0] S8192x256.size inb_S8192x256_S8192x256_0_0, p0⟩] : List (View.Piece (Elt F) S8192x256 .fp8e4m3)), y ∈ pc.1.set :=
  View.cover_of_tiled _ S8192x256.size (by rfl) y
theorem cover1_7 (p0 : Vec F S256x8192 .fp8e4m3) (y : S256x8192.Idx) :
    ∃ pc ∈ ([⟨Rect.unit (s := S256x8192) ![0, 0] S256x8192.size inb_S256x8192_S256x8192_0_0, p0⟩] : List (View.Piece (Elt F) S256x8192 .fp8e4m3)), y ∈ pc.1.set :=
  View.cover_of_tiled _ S256x8192.size (by rfl) y
theorem cover1_8 (p0 : Vec F S256x128 .f32) (y : S256x128.Idx) :
    ∃ pc ∈ ([⟨Rect.unit (s := S256x128) ![0, 0] S256x128.size inb_S256x128_S256x128_0_0, p0⟩] : List (View.Piece (Elt F) S256x128 .f32)), y ∈ pc.1.set :=
  View.cover_of_tiled _ S256x128.size (by rfl) y

set_option maxHeartbeats 2000000 in
/-- The second kernel's body at the first point of a strip: it quantises the block of `x`, keeps the transposed codes
    and the scale column, and writes the tile. -/
theorem sound1_A (c : Dev nD) (E : Set ℕ) (i : grid1.Coords) (arg2 : Memref sig .tc .vmem S8192x256 .bf16) (harg2 : arg2.IsWhole) (arg3 : Memref sig .tc .vmem S8192x3584 .fp8e5m2) (harg3 : arg3.IsWhole) (arg4 : Memref sig .tc .vmem S1x3584 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8192x256 .fp8e4m3) (harg7 : arg7.IsWhole) (arg8 : Memref sig .tc .vmem S1x256 .f32) (harg8 : arg8.IsWhole) (arg9 : Memref sig .tc .vmem S256x8192 .fp8e4m3) (harg9 : arg9.IsWhole) (arg10 : Memref sig .tc .vmem S256x128 .f32) (harg10 : arg10.IsWhole) (hc0 : k1_cond1 i = 1#1)
    (x0 : Vec F S8192x256 .bf16) (x1 : Vec F S8192x3584 .fp8e5m2) (x2 : Vec F S1x3584 .f32) (x3 : Vec F S256x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wgradTile i x1 x2 x3 (xt1 x0) (scol1 x0)) ∗ owns (c : Thread nD τ) arg7 fullShare (codes1 x0) ∗ owns (c : Thread nD τ) arg8 fullShare (scale1 x0) ∗ owns (c : Thread nD τ) arg9 fullShare (xt1 x0) ∗ owns (c : Thread nD τ) arg10 fullShare (scol1 x0)) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  subst hf0; subst hf1; subst hf2; subst hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    refine (View.canon_unit_zero off2 _ _).trans ?_
    have e8 : sound1_A.sl.v8 c arg2 arg9 f0 = xt1 (View.read (Elt F) arg2.view f0) := by
      refine (View.readCov_unit_zero _ off2 _ _).trans ?_
      exact congrArg xt1 (View.ld_unit_zero off2 inb_S8192x256_S8192x256_0_0 (arg2.view.read (Elt F) f0))
    have e10 : sound1_A.sl.v10 c arg2 arg10 f0 = scol1 (View.read (Elt F) arg2.view f0) := by
      refine (View.readCov_unit_zero _ off2 _ _).trans ?_
      exact congrArg scol1 (View.ld_unit_zero off2 inb_S8192x256_S8192x256_0_0 (arg2.view.read (Elt F) f0))
    rw [e8, e10]
    exact congrArg (k1_pay3 _ _ _ _) (View.ld_unit_zero off2 inb_S256x512_S256x512_0_0 (arg5.view.read (Elt F) f3))
  isplitl [H5]
  · iexists _; isplitr
    swap; · iexact H5
    ipureintro
    refine (View.read_writes_eq_canon _ _ _ (cover1_5 _)).trans ?_
    refine (View.canon_unit_zero off2 _ _).trans ?_
    exact congrArg codes1 (View.ld_unit_zero off2 inb_S8192x256_S8192x256_0_0 (arg2.view.read (Elt F) f0))
  isplitl [H6]
  · iexists _; isplitr
    swap; · iexact H6
    ipureintro
    refine (View.read_writes_eq_canon _ _ _ (cover0_2 _)).trans ?_
    refine (View.canon_unit_zero off2 _ _).trans ?_
    exact congrArg scale1 (View.ld_unit_zero off2 inb_S8192x256_S8192x256_0_0 (arg2.view.read (Elt F) f0))
  isplitl [HS0]
  · iexists _; isplitr
    swap; · iexact HS0
    ipureintro
    refine (View.read_writes_eq_canon _ _ _ (cover1_7 _)).trans ?_
    refine (View.canon_unit_zero off2 _ _).trans ?_
    exact congrArg xt1 (View.ld_unit_zero off2 inb_S8192x256_S8192x256_0_0 (arg2.view.read (Elt F) f0))
  iexists _; isplitr
  swap; · iexact HS1
  ipureintro
  refine (View.read_writes_eq_canon _ _ _ (cover1_8 _)).trans ?_
  refine (View.canon_unit_zero off2 _ _).trans ?_
  exact congrArg scol1 (View.ld_unit_zero off2 inb_S8192x256_S8192x256_0_0 (arg2.view.read (Elt F) f0))

set_option maxHeartbeats 2000000 in
/-- The second kernel's body at any other point of a strip: it reads the two kept buffers and writes the tile, and leaves
    the rest as it was. -/
theorem sound1_B (c : Dev nD) (E : Set ℕ) (i : grid1.Coords) (arg2 : Memref sig .tc .vmem S8192x256 .bf16) (harg2 : arg2.IsWhole) (arg3 : Memref sig .tc .vmem S8192x3584 .fp8e5m2) (harg3 : arg3.IsWhole) (arg4 : Memref sig .tc .vmem S1x3584 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8192x256 .fp8e4m3) (harg7 : arg7.IsWhole) (arg8 : Memref sig .tc .vmem S1x256 .f32) (harg8 : arg8.IsWhole) (arg9 : Memref sig .tc .vmem S256x8192 .fp8e4m3) (harg9 : arg9.IsWhole) (arg10 : Memref sig .tc .vmem S256x128 .f32) (harg10 : arg10.IsWhole) (hc0 : ¬ k1_cond1 i = 1#1)
    (x0 : Vec F S8192x256 .bf16) (x1 : Vec F S8192x3584 .fp8e5m2) (x2 : Vec F S1x3584 .f32) (x3 : Vec F S256x512 .f32)
    (y5 : Vec F S8192x256 .fp8e4m3) (y6 : Vec F S1x256 .f32) (s0 : Vec F S256x8192 .fp8e4m3) (s1 : Vec F S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5 ∗ owns (c : Thread nD τ) arg8 fullShare y6 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wgradTile i x1 x2 x3 s0 s1) ∗ owns (c : Thread nD τ) arg7 fullShare y5 ∗ owns (c : Thread nD τ) arg8 fullShare y6 ∗ owns (c : Thread nD τ) arg9 fullShare s0 ∗ owns (c : Thread nD τ) arg10 fullShare s1) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  subst hf0; subst hf1; subst hf2; subst hf3; subst hf5; subst hf6; subst hfs0; subst hfs1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    refine (View.canon_unit_zero off2 _ _).trans ?_
    exact congr (congr (congr (congrArg (k1_pay3 _)
      (View.ld_unit_zero off2 inb_S256x8192_S256x8192_0_0 (arg9.view.read (Elt F) fs0)))
      (View.ld_unit_zero off2 inb_S256x128_S256x128_0_0 (arg10.view.read (Elt F) fs1))) rfl)
      (View.ld_unit_zero off2 inb_S256x512_S256x512_0_0 (arg5.view.read (Elt F) f3))
  isplitl [H5]
  · iexists f5; isplitr; · ipureintro; rfl
    iexact H5
  isplitl [H6]
  · iexists f6; isplitr; · ipureintro; rfl
    iexact H6
  isplitl [HS0]
  · iexists fs0; isplitr; · ipureintro; rfl
    iexact HS0
  iexists fs1; isplitr; · ipureintro; rfl
  iexact HS1

end Cert.KernelIdeal.Run

end
-- ==== Proof.IDats0.lean ====
/- The two pipelines' proof data over any contents of the arrays at entry, and the bodies' obligations at every point. -/
module

public import proofs.«01_k».proof.Proof.IBodies
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Blocks of columns -/

/-- Columns `256 s … 256 s + 255` of the array `x`. -/
def xblk (A : S8192x9472.Idx → Elt F .bf16) (s : Fin 37) : Vec F S8192x256 .bf16 :=
  fun y => A (ix2 ⟨(y 0).val, (y 0).isLt⟩ ⟨s.val * 256 + (y 1).val, by have h : (y 1).val < 256 := (y 1).isLt; omega⟩)

/-- Columns `256 s … 256 s + 255` of the array `dy`. -/
def dyblk (A : S8192x3584.Idx → Elt F .bf16) (s : Fin 14) : Vec F S8192x256 .bf16 :=
  fun y => A (ix2 ⟨(y 0).val, (y 0).isLt⟩ ⟨s.val * 256 + (y 1).val, by have h : (y 1).val < 256 := (y 1).isLt; omega⟩)

/-- The tile of rows `256 s …` and columns `512 n …` of the gradient accumulated into. -/
def mgblk (A : S9472x3584.Idx → Elt F .f32) (s : Fin 37) (n : Fin 7) : Vec F S256x512 .f32 :=
  fun y => A (ix2 ⟨s.val * 256 + (y 0).val, by have h : (y 0).val < 256 := (y 0).isLt; omega⟩
    ⟨n.val * 512 + (y 1).val, by have h : (y 1).val < 512 := (y 1).isLt; omega⟩)

theorem point1_lt (t : Fin cfg1.N) : t.val < 259 := lt_of_lt_of_eq t.isLt (show cfg1.N = 259 from N_1)
theorem point0_lt (t : Fin cfg0.N) : t.val < 14 := lt_of_lt_of_eq t.isLt (show cfg0.N = 14 from N_0)

/-- The strip of `x` that a point of the second kernel works on. -/
def strip (t : Fin cfg1.N) : Fin 37 := ⟨t.val / 7, by have := point1_lt t; omega⟩
/-- The tile of columns that a point of the second kernel works on. -/
def ncol (t : Fin cfg1.N) : Fin 7 := ⟨t.val % 7, by omega⟩
/-- The block of `dy` that a point of the first kernel works on. -/
def col0 (t : Fin cfg0.N) : Fin 14 := ⟨t.val, point0_lt t⟩

theorem idx0 : ∀ t : Fin grid0.N, win0_0.index t = ![0, t.val] ∧ win0_1.index t = ![0, t.val] ∧ win0_2.index t = ![0, t.val] := by
  decide +kernel
theorem idx1 : ∀ t : Fin grid1.N, win1_0.index t = ![0, t.val / 7] ∧ win1_1.index t = ![0, 0] ∧ win1_2.index t = ![0, 0]
    ∧ win1_3.index t = ![t.val / 7, t.val % 7] ∧ win1_4.index t = ![t.val / 7, t.val % 7] ∧ win1_5.index t = ![0, t.val / 7]
    ∧ win1_6.index t = ![0, t.val / 7] := by
  decide +kernel

/-- The second kernel's condition holds at the first point of a strip. -/
theorem hcond1 : ∀ t : Fin cfg1.N, k1_cond1 (grid1.coords t) = 1#1 ↔ t.val % 7 = 0 :=
  (fun t => by
    have ht : t.val < 259 := Nat.lt_of_lt_of_eq t.isLt N_1
    have e0 : (grid1.coords t 0).val = t.val / 7 % 37 := Pipeline.Grid.coords_val t 0 (by decide) rfl
    have e1 : (grid1.coords t 1).val = t.val / 1 % 7 := Pipeline.Grid.coords_val t 1 (by decide) rfl
    simp only [k1_cond1, e0, e1]
    word_cmp
   : ∀ t : Fin grid1.N, k1_cond1 (grid1.coords t) = 1#1 ↔ t.val % 7 = 0)

variable (W : Dev nD → Valuation τ sig (Elt F))

/-! ## The first pipeline -/

/-- Window `w`'s block at point `t` of the first pipeline, read off its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem iblk0_0 (c : Dev nD) (t : Fin cfg0.N) : iblk0 W c 0 t = dyblk (W c (Proc.devRef .tc main_v1)) (col0 t) := by
  funext y
  unfold iblk0 dyblk
  blk_ext [(idx0 t).1, col0]

/-- The proof data of the first pipeline: what each window's buffer holds after the body. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => codes0 (dyblk (W c (Proc.devRef .tc main_v1)) (col0 t))
    | ⟨2, _⟩ => scale0 (dyblk (W c (Proc.devRef .tc main_v1)) (col0 t))
  Φ _ := Pipeline.scopedRest spec0 c
  q _ := fullShare
  owed _ := 0

theorem A0_eq (c : Dev nD) (w : Fin cfg0.W) : (dat0 W c).A w = W c (Proc.devRef .tc (Pipeline.arrRef spec0 w)) := by
  dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = codes0 (dyblk (W c (Proc.devRef .tc main_v1)) (col0 t)) := by dsimp only [dat0]
theorem after0_2 (c : Dev nD) (t : Fin cfg0.N) : (dat0 W c).after 2 t = scale0 (dyblk (W c (Proc.devRef .tc main_v1)) (col0 t)) := by dsimp only [dat0]

theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)

def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

/-- The first kernel's body at any point of its grid. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0]
  rw [show (dat0 W c).Φ t.succ = (dat0 W c).Φ t.castSucc from rfl,
    show (dat0 W c).owesAt () t.succ = (dat0 W c).owesAt () t.castSucc from rfl,
    after0_0, after0_1, after0_2, iblk0_0]
  iintro ⟨HΦ, Ho, ⟨%d0, H0⟩, ⟨%d1, H1⟩, ⟨%d2, H2⟩⟩
  iapply (sound0 c Set.univ (grid0.coords t) _ _ _ _ _ _ (dyblk (W c (Proc.devRef .tc main_v1)) (col0 t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

/-- The obligation of the first pipeline's body. -/
theorem obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Run

end
-- ==== Proof.IDats1.lean ====
/- The two pipelines' proof data over any contents of the arrays at entry, and the bodies' obligations at every point. -/
module

public import proofs.«01_k».proof.Proof.IDats0
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The second pipeline -/

/-- Window `w`'s block at point `t` of the second pipeline, read off its array at entry. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The block of `x` at a point of the second pipeline. -/
abbrev xb (c : Dev nD) (t : Fin cfg1.N) : Vec F S8192x256 .bf16 := xblk (W c (Proc.devRef .tc main_v0)) (strip t)

theorem iblk1_0 (c : Dev nD) (t : Fin cfg1.N) : iblk1 W c 0 t = xb W c t := by
  funext y
  unfold iblk1 xb xblk
  blk_ext [(idx1 t).1, strip]
theorem iblk1_1 (c : Dev nD) (t : Fin cfg1.N) : iblk1 W c 1 t = W c (Proc.devRef .tc main_v2_0) := by
  funext y
  unfold iblk1
  blk_ext [(idx1 t).2.1]
theorem iblk1_2 (c : Dev nD) (t : Fin cfg1.N) : iblk1 W c 2 t = W c (Proc.devRef .tc main_v2_1) := by
  funext y
  unfold iblk1
  blk_ext [(idx1 t).2.2.1]
theorem iblk1_3 (c : Dev nD) (t : Fin cfg1.N) : iblk1 W c 3 t = mgblk (W c (Proc.devRef .tc main_arg2)) (strip t) (ncol t) := by
  funext y
  unfold iblk1 mgblk
  blk_ext [(idx1 t).2.2.2.1, strip, ncol]

/-- The tile written at a point of the second pipeline. -/
def tileAt (c : Dev nD) (t : Fin cfg1.N) : FVec F S256x512 .f32 :=
  wgradTile (grid1.coords t) (W c (Proc.devRef .tc main_v2_0)) (W c (Proc.devRef .tc main_v2_1))
    (mgblk (W c (Proc.devRef .tc main_arg2)) (strip t) (ncol t)) (xt1 (xb W c t)) (scol1 (xb W c t))

/-- The two kept buffers before point `n`: anything before the first, then the transposed codes and the scale column of the
    block of the point before. -/
def kept1 (c : Dev nD) : (n : ℕ) → n ≤ cfg1.N → sProp 𝕄
  | 0, _ => iprop((∃ d, owns (c : Thread nD τ) (Memref.whole cc1_scratch0) fullShare d) ∗ (∃ d, owns (c : Thread nD τ) (Memref.whole cc1_scratch1) fullShare d))
  | n + 1, h => iprop(owns (c : Thread nD τ) (Memref.whole cc1_scratch0) fullShare (xt1 (xb W c ⟨n, h⟩)) ∗ owns (c : Thread nD τ) (Memref.whole cc1_scratch1) fullShare (scol1 (xb W c ⟨n, h⟩)))

/-- The first pipeline's staging buffers, each at anything. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant of the second pipeline before point `n`. -/
def inv1 (c : Dev nD) (n : ℕ) (h : n ≤ cfg1.N) : sProp 𝕄 := iprop(other1 c ∗ kept1 W c n h)

/-- The proof data of the second pipeline. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => tileAt W c t
    | ⟨5, _⟩ => codes1 (xb W c t)
    | ⟨6, _⟩ => scale1 (xb W c t)
  Φ t := inv1 W c t.val (Nat.le_of_lt_succ t.isLt)
  q _ := fullShare
  owed _ := 0

theorem A1_eq (c : Dev nD) (w : Fin cfg1.W) : (dat1 W c).A w = W c (Proc.devRef .tc (Pipeline.arrRef spec1 w)) := by
  dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = tileAt W c t := by dsimp only [dat1]
theorem after1_5 (c : Dev nD) (t : Fin cfg1.N) : (dat1 W c).after 5 t = codes1 (xb W c t) := by dsimp only [dat1]
theorem after1_6 (c : Dev nD) (t : Fin cfg1.N) : (dat1 W c).after 6 t = scale1 (xb W c t) := by dsimp only [dat1]

theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

/-- Inside a strip the codes block still holds what the strip's first point wrote. -/
theorem before1_5 (c : Dev nD) : ∀ (n : ℕ) (t : Fin cfg1.N), t.val = n → t.val % 7 ≠ 0 → ∀ d, (dat1 W c).before 5 t d = codes1 (xb W c t) := by
  intro n
  induction n with
  | zero => intro t ht h; exact absurd (by rw [ht]) h
  | succ n ih =>
    intro t ht h d
    have hlt : t.val - 1 < cfg1.N := Nat.lt_of_le_of_lt (Nat.sub_le _ _) t.isLt
    have hs : strip ⟨t.val - 1, hlt⟩ = strip t := Fin.ext (by show (t.val - 1) / 7 = t.val / 7; omega)
    have hfl : (cfg1.win 5).flush ⟨t.val - 1, hlt⟩ = false := by
      rw [Bool.eq_false_iff]; intro hf
      have h6 : (t.val - 1) % 7 = 6 := (flush1_5 ⟨t.val - 1, hlt⟩).mp hf
      omega
    rw [(dat1 W c).before_of_pos 5 t (by omega) ((cfg1.win 5).fetch_out rfl t), hfl, if_neg Bool.false_ne_true]
    by_cases h0 : (t.val - 1) % 7 = 0
    · have hi : cfg1.idle 5 (cfg1.grid.coords ⟨t.val - 1, hlt⟩) = false := by
        show (!(k1_cond1 (grid1.coords ⟨t.val - 1, hlt⟩) == 1#1)) = false
        rw [(hcond1 ⟨t.val - 1, hlt⟩).mpr h0]; rfl
      unfold Dat.left; rw [hi]
      show (dat1 W c).kept 5 ⟨t.val - 1, hlt⟩ d = _
      unfold Dat.kept
      rw [Pipeline.fill_of_clip_none 5 _ (fun a => rfl) d ((dat1 W c).after 5 ⟨t.val - 1, hlt⟩), Window.fill_cut, after1_5]
      unfold xb; rw [hs]
    · have hi : cfg1.idle 5 (cfg1.grid.coords ⟨t.val - 1, hlt⟩) = true := by
        show (!(k1_cond1 (grid1.coords ⟨t.val - 1, hlt⟩) == 1#1)) = true
        have hne : ¬ k1_cond1 (grid1.coords ⟨t.val - 1, hlt⟩) = 1#1 := fun hc => h0 ((hcond1 ⟨t.val - 1, hlt⟩).mp hc)
        rw [beq_eq_false_iff_ne.mpr hne]; rfl
      unfold Dat.left; rw [hi]
      show (dat1 W c).before 5 ⟨t.val - 1, hlt⟩ d = _
      rw [ih ⟨t.val - 1, hlt⟩ (by show t.val - 1 = n; omega) h0 d]
      unfold xb; rw [hs]

/-- Inside a strip the scale block still holds what the strip's first point wrote. -/
theorem before1_6 (c : Dev nD) : ∀ (n : ℕ) (t : Fin cfg1.N), t.val = n → t.val % 7 ≠ 0 → ∀ d, (dat1 W c).before 6 t d = scale1 (xb W c t) := by
  intro n
  induction n with
  | zero => intro t ht h; exact absurd (by rw [ht]) h
  | succ n ih =>
    intro t ht h d
    have hlt : t.val - 1 < cfg1.N := Nat.lt_of_le_of_lt (Nat.sub_le _ _) t.isLt
    have hs : strip ⟨t.val - 1, hlt⟩ = strip t := Fin.ext (by show (t.val - 1) / 7 = t.val / 7; omega)
    have hfl : (cfg1.win 6).flush ⟨t.val - 1, hlt⟩ = false := by
      rw [Bool.eq_false_iff]; intro hf
      have h6 : (t.val - 1) % 7 = 6 := (flush1_6 ⟨t.val - 1, hlt⟩).mp hf
      omega
    rw [(dat1 W c).before_of_pos 6 t (by omega) ((cfg1.win 6).fetch_out rfl t), hfl, if_neg Bool.false_ne_true]
    by_cases h0 : (t.val - 1) % 7 = 0
    · have hi : cfg1.idle 6 (cfg1.grid.coords ⟨t.val - 1, hlt⟩) = false := by
        show (!(k1_cond1 (grid1.coords ⟨t.val - 1, hlt⟩) == 1#1)) = false
        rw [(hcond1 ⟨t.val - 1, hlt⟩).mpr h0]; rfl
      unfold Dat.left; rw [hi]
      show (dat1 W c).kept 6 ⟨t.val - 1, hlt⟩ d = _
      unfold Dat.kept
      rw [Pipeline.fill_of_clip_none 6 _ (fun a => rfl) d ((dat1 W c).after 6 ⟨t.val - 1, hlt⟩), Window.fill_cut, after1_6]
      unfold xb; rw [hs]
    · have hi : cfg1.idle 6 (cfg1.grid.coords ⟨t.val - 1, hlt⟩) = true := by
        show (!(k1_cond1 (grid1.coords ⟨t.val - 1, hlt⟩) == 1#1)) = true
        have hne : ¬ k1_cond1 (grid1.coords ⟨t.val - 1, hlt⟩) = 1#1 := fun hc => h0 ((hcond1 ⟨t.val - 1, hlt⟩).mp hc)
        rw [beq_eq_false_iff_ne.mpr hne]; rfl
      unfold Dat.left; rw [hi]
      show (dat1 W c).before 6 ⟨t.val - 1, hlt⟩ d = _
      rw [ih ⟨t.val - 1, hlt⟩ (by show t.val - 1 = n; omega) h0 d]
      unfold xb; rw [hs]

def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d)))

def bodyPost1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t
    ∗ (dat1 W c).leavesExact 6 t)

theorem Phi1_castSucc (c : Dev nD) (t : Fin cfg1.N) : (dat1 W c).Φ t.castSucc = inv1 W c t.val (Nat.le_of_lt t.isLt) := by
  dsimp only [dat1]; exact Pipeline.Dat.Φ_castSucc (inv1 W c) t
theorem Phi1_succ (c : Dev nD) (t : Fin cfg1.N) : (dat1 W c).Φ t.succ = inv1 W c (t.val + 1) t.isLt := by
  dsimp only [dat1]; rfl

/-- What the kept buffers hold before a point: something. -/
theorem kept1_any (c : Dev nD) (n : ℕ) (h : n ≤ cfg1.N) :
    kept1 W c n h ⊢ iprop((∃ d, owns (c : Thread nD τ) (Memref.whole cc1_scratch0) fullShare d) ∗ (∃ d, owns (c : Thread nD τ) (Memref.whole cc1_scratch1) fullShare d)) := by
  cases n with
  | zero => exact .rfl
  | succ n =>
    unfold kept1
    iintro ⟨H0, H1⟩
    isplitl [H0]
    · iexists _; iexact H0
    iexists _; iexact H1

/-- Inside a strip they hold the strip's codes and scale. -/
theorem kept1_strip (c : Dev nD) (t : Fin cfg1.N) (h : t.val % 7 ≠ 0) :
    kept1 W c t.val (Nat.le_of_lt t.isLt) = iprop(owns (c : Thread nD τ) (Memref.whole cc1_scratch0) fullShare (xt1 (xb W c t)) ∗ owns (c : Thread nD τ) (Memref.whole cc1_scratch1) fullShare (scol1 (xb W c t))) := by
  obtain ⟨n, hn⟩ := t
  cases n with
  | zero => exact absurd rfl h
  | succ n =>
    have hs : strip ⟨n, Nat.lt_of_succ_lt hn⟩ = strip ⟨n + 1, hn⟩ := Fin.ext (by show n / 7 = (n + 1) / 7; have h' : (n + 1) % 7 ≠ 0 := h; omega)
    have hb : xb W c ⟨n, Nat.lt_of_succ_lt hn⟩ = xb W c ⟨n + 1, hn⟩ := by unfold xb; rw [hs]
    rw [← hb]
    rfl

theorem leaves1_live (c : Dev nD) (w : Fin cfg1.W) (t : Fin cfg1.N) (h : cfg1.idle w (grid1.coords t) = false) :
    (dat1 W c).leavesExact w t = owns (c : Thread nD τ) ((cfg1.win w).stage (cfg1.slots t w)) fullShare ((dat1 W c).after w t) := by
  unfold Dat.leavesExact; rw [h]

/-- What a point inside a strip leaves in the codes block's buffer. -/
theorem leaves1_5 (c : Dev nD) (t : Fin cfg1.N) (h : t.val % 7 ≠ 0) :
    owns (c : Thread nD τ) (st1_5 t) fullShare (codes1 (xb W c t)) ⊢ ((dat1 W c).leavesExact 5 t : sProp 𝕄) := by
  have hi : cfg1.idle 5 (cfg1.grid.coords t) = true := by
    show (!(k1_cond1 (grid1.coords t) == 1#1)) = true
    have hne : ¬ k1_cond1 (grid1.coords t) = 1#1 := fun hc => h ((hcond1 t).mp hc)
    rw [beq_eq_false_iff_ne.mpr hne]; rfl
  cases hf : (cfg1.win 5).flush t with
  | false =>
    rw [(dat1 W c).leavesExact_idle 5 t hi hf]
    iintro H
    iexists (codes1 (xb W c t))
    rw [before1_5 W c t.val t rfl h]
    iexact H
  | true =>
    rw [show (dat1 W c).leavesExact 5 t = owns (c : Thread nD τ) (st1_5 t) fullShare ((dat1 W c).after 5 t) from by
      unfold Dat.leavesExact; rw [hi, hf], after1_5]

/-- What a point inside a strip leaves in the scale block's buffer. -/
theorem leaves1_6 (c : Dev nD) (t : Fin cfg1.N) (h : t.val % 7 ≠ 0) :
    owns (c : Thread nD τ) (st1_6 t) fullShare (scale1 (xb W c t)) ⊢ ((dat1 W c).leavesExact 6 t : sProp 𝕄) := by
  have hi : cfg1.idle 6 (cfg1.grid.coords t) = true := by
    show (!(k1_cond1 (grid1.coords t) == 1#1)) = true
    have hne : ¬ k1_cond1 (grid1.coords t) = 1#1 := fun hc => h ((hcond1 t).mp hc)
    rw [beq_eq_false_iff_ne.mpr hne]; rfl
  cases hf : (cfg1.win 6).flush t with
  | false =>
    rw [(dat1 W c).leavesExact_idle 6 t hi hf]
    iintro H
    iexists (scale1 (xb W c t))
    rw [before1_6 W c t.val t rfl h]
    iexact H
  | true =>
    rw [show (dat1 W c).leavesExact 6 t = owns (c : Thread nD τ) (st1_6 t) fullShare ((dat1 W c).after 6 t) from by
      unfold Dat.leavesExact; rw [hi, hf], after1_6]

set_option maxHeartbeats 1600000 in
/-- The second kernel's body at any point of its grid. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3]
  rw [Phi1_castSucc, Phi1_succ, show (dat1 W c).owesAt () t.succ = (dat1 W c).owesAt () t.castSucc from rfl]
  rw [leaves1_live W c 0 t rfl, leaves1_live W c 1 t rfl, leaves1_live W c 2 t rfl, leaves1_live W c 3 t rfl, leaves1_live W c 4 t rfl,
    after1_0, after1_1, after1_2, after1_3, after1_4, iblk1_0, iblk1_1, iblk1_2, iblk1_3]
  unfold inv1
  by_cases h0 : t.val % 7 = 0
  · have hc := (hcond1 t).mpr h0
    have hl : cfg1.idle 5 (cfg1.grid.coords t) = false := by
      show (!(k1_cond1 (grid1.coords t) == 1#1)) = false
      rw [hc]; rfl
    have hl' : cfg1.idle 6 (cfg1.grid.coords t) = false := hl
    rw [leaves1_live W c 5 t hl, leaves1_live W c 6 t hl', after1_5, after1_6]
    iintro ⟨⟨Hr, Hk⟩, Ho, ⟨%d0, H0⟩, ⟨%d1, H1⟩, ⟨%d2, H2⟩, ⟨%d3, H3⟩, ⟨%d4, H4⟩, ⟨%d5, H5⟩, ⟨%d6, H6⟩⟩
    ihave Hk' := (kept1_any W c t.val (Nat.le_of_lt t.isLt)) $$ Hk
    icases Hk' with ⟨HS0, HS1⟩
    iapply (sound1_A c Set.univ (grid1.coords t) _ _ _ _ _ _ _ _ _ _ _ _ _ _ _ _ _ _ hc (xb W c t) (W c (Proc.devRef .tc main_v2_0)) (W c (Proc.devRef .tc main_v2_1)) (mgblk (W c (Proc.devRef .tc main_arg2)) (strip t) (ncol t)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [Hr HS0 HS1]
    · isplitl [Hr]; · iexact Hr
      unfold kept1
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬ k1_cond1 (grid1.coords t) = 1#1 := fun hc => h0 ((hcond1 t).mp hc)
    rw [kept1_strip W c t h0]
    simp only [before1_5 W c t.val t rfl h0, before1_6 W c t.val t rfl h0]
    iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
    iapply (sound1_B c Set.univ (grid1.coords t) _ _ _ _ _ _ _ _ _ _ _ _ _ _ _ _ _ _ hc (xb W c t) (W c (Proc.devRef .tc main_v2_0)) (W c (Proc.devRef .tc main_v2_1)) (mgblk (W c (Proc.devRef .tc main_arg2)) (strip t) (ncol t)) (codes1 (xb W c t)) (scale1 (xb W c t)) (xt1 (xb W c t)) (scol1 (xb W c t)) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [Hr HS0 HS1]
    · isplitl [Hr]; · iexact Hr
      unfold kept1
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]
    · iapply (leaves1_5 W c t h0); iexact H5
    iapply (leaves1_6 W c t h0); iexact H6

theorem defs₀_row1 (t : Fin cfg1.N) :
    defs₀ (F := F) .tc cfg1.body (cfg1.bodyArgs t (cfg1.slots t)) = bodyAt1 t := by
  unfold defs₀; rw [Defs.onTc_tc]

/-- The obligation of the second pipeline's body. -/
theorem obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.KernelIdeal.Run

end
-- ==== Proof.IRun.lean ====
/- The run of the program: every result buffer at the pipelines' final arrays, the arguments as launched, the semaphores at zero. -/
module

public import proofs.«01_k».proof.Proof.IDats1
public import proofs.«01_k».proof.Proof.Gen.KernelIdeal.Regions
public import Idealize.ShloMosaic.Lib.Pipeline.RegionArraysS
public import Idealize.ShloMosaic.Lib.Pipeline.FrameTail

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The unscoped buffers when the first pipeline starts. -/
def W1 : Dev nD → Valuation τ sig (Elt F) := fun c => V1 m c
/-- The unscoped buffers when the second pipeline starts. -/
def W2 : Dev nD → Valuation τ sig (Elt F) := fun c => Pipeline.afterRegion (dat0 (W1 m) c) (W1 m c)
/-- The unscoped buffers at the end. -/
def W3 : Dev nD → Valuation τ sig (Elt F) := fun c => Pipeline.afterRegion (dat1 (W2 m) c) (W2 m c)

/-- The two pipelines' proof data. -/
def pdats : (p : Fin 2) → (c : Dev nD) → Dat τ (Elt F) Unit ℕ (UR sig nD τ) ℕ (cfgs p) c
  | ⟨0, _⟩, c => dat0 (W1 m) c
  | ⟨1, _⟩, c => dat1 (W2 m) c

/-- The levels: every cell of a TensorCore at the single index. -/
def LL : GSem nD τ sig → Finset Unit := fun g => if g.1.2 = .tc then {()} else ∅
/-- Every level is 0. -/
def lvl : GSem nD τ sig → Unit → ℕ := fun _ _ => 0

/-- What a core keeps between the items beside its buffers: it owes nothing. -/
def rest (c : Dev nD) : sProp 𝕄 :=
  iprop((∃ Wd, owes (c : Thread nD τ) (0 : CellTallies nD τ sig Unit) Wd) ∗ (BI.emp : sProp 𝕄) ∗ (BI.emp : sProp 𝕄))

theorem cut (p : Fin 2) : Pipeline.LevelCut (nD := nD) (τ := τ) (pcfgs (F := F)) adm () LL lvl p (fun _ => 0) (fun _ => 0) where
  hι c w s := by unfold LL; rw [if_pos rfl]; exact Finset.mem_singleton.mpr rfl
  hιb c w s := le_refl _
  hD c g i h := absurd h (by simp)

theorem hin1 (c : Dev nD) : iprop((Pipeline.scopedRest spec1 c : sProp 𝕄) ∗ (BI.emp : sProp 𝕄)) ⊢ (dat1 (W2 m) c).Φ 0 := by
  show _ ⊢ inv1 (W2 m) c 0 (Nat.zero_le _)
  rw [scopedRest1_eq]
  unfold inv1 other1 kept1
  iintro ⟨⟨H0, H1, H2, H3, H4, H5, ⟨%f, H6⟩, ⟨%g, H7⟩⟩, -⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · iexists f
    rw [owns_whole (c : Thread nD τ) cc1_scratch0 fullShare f]
    iexact H6
  iexists g
  rw [owns_whole (c : Thread nD τ) cc1_scratch1 fullShare g]
  iexact H7

theorem hout1 (c : Dev nD) : (dat1 (W2 m) c).Φ (Fin.last cfg1.N) ⊢ iprop((Pipeline.scopedRest spec1 c : sProp 𝕄) ∗ (BI.emp : sProp 𝕄)) := by
  show inv1 (W2 m) c cfg1.N (le_refl _) ⊢ _
  rw [scopedRest1_eq]
  unfold inv1 other1
  iintro ⟨⟨H0, H1, H2, H3, H4, H5⟩, Hk⟩
  ihave Hk' := (kept1_any (W2 m) c cfg1.N (le_refl _)) $$ Hk
  icases Hk' with ⟨⟨%f, H6⟩, ⟨%g, H7⟩⟩
  isplitl
  · isplitl [H0]; · iexact H0
    isplitl [H1]; · iexact H1
    isplitl [H2]; · iexact H2
    isplitl [H3]; · iexact H3
    isplitl [H4]; · iexact H4
    isplitl [H5]; · iexact H5
    isplitl [H6]
    · iexists f
      rw [← owns_whole (c : Thread nD τ) cc1_scratch0 fullShare f]
      iexact H6
    iexists g
    rw [← owns_whole (c : Thread nD τ) cc1_scratch1 fullShare g]
    iexact H7
  iempintro

theorem hin0 (c : Dev nD) : iprop((Pipeline.scopedRest spec0 c : sProp 𝕄) ∗ (BI.emp : sProp 𝕄)) ⊢ (dat0 (W1 m) c).Φ 0 := by
  show _ ⊢ (Pipeline.scopedRest spec0 c : sProp 𝕄)
  iintro ⟨H, -⟩
  iexact H

theorem hout0 (c : Dev nD) : (dat0 (W1 m) c).Φ (Fin.last cfg0.N) ⊢ iprop((Pipeline.scopedRest spec0 c : sProp 𝕄) ∗ (BI.emp : sProp 𝕄)) := by
  show (Pipeline.scopedRest spec0 c : sProp 𝕄) ⊢ _
  iintro H
  isplitl; · iexact H
  iempintro

/-- The first pipeline as a segment of the run. -/
def R0 : RegionSeg (pcfgs (F := F)) adm (pdats m) () defs₀ Variants.none LL lvl 0 :=
  RegionSeg.ofHeldIn pcfgs adm (pdats m) () defs₀ Variants.none LL lvl 0 (fun _ => 0) (Pipeline.ucRefs τ sig) (fun _ => BI.emp) (fun _ => BI.emp)
    launch0.toP rfl (fun c => (obligation0 (W1 m) c).loose) (fun _ _ => rfl) (fun _ => rfl) (fun c => (dat0 (W1 m) c).share_full fun _ => rfl)
    (hin0 m) (hout0 m) (fun _ => 0) (cut 0) (fun _ => BI.emp) (W1 m) (fun c w => A0_eq (W1 m) c w)

/-- The second pipeline as a segment of the run. -/
def R1 : RegionSeg (pcfgs (F := F)) adm (pdats m) () defs₀ Variants.none LL lvl 1 :=
  RegionSeg.ofHeldIn pcfgs adm (pdats m) () defs₀ Variants.none LL lvl 1 (fun _ => 0) (Pipeline.ucRefs τ sig) (fun _ => BI.emp) (fun _ => BI.emp)
    launch1.toP rfl (fun c => (obligation1 (W2 m) c).loose) (fun _ _ => rfl) (fun _ => rfl) (fun c => (dat1 (W2 m) c).share_full fun _ => rfl)
    (hin1 m) (hout1 m) (fun _ => 0) (cut 1) (fun _ => BI.emp) (W2 m) (fun c w => A1_eq (W2 m) c w)

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

theorem W2_eq (c : Dev nD) : W2 m c = Pipeline.afterRegion (pdats m 0 c) (W1 m c) := by
  unfold W2
  rw [show pdats m 0 c = dat0 (W1 m) c from rfl]
theorem W3_eq (c : Dev nD) : W3 m c = Pipeline.afterRegion (pdats m 1 c) (W2 m c) := by
  unfold W3
  rw [show pdats m 1 c = dat1 (W2 m) c from rfl]

theorem enter0 (c : Dev nD) : iprop(StableHlo.held (c.tc : Thread nD τ) (Pipeline.ucRefs τ sig) (W1 m c) ∗ rest c) ⊢ (R0 m).pre c := by
  unfold R0 rest
  exact RegionSeg.ofHeldIn_pre (pcs := pcfgs (F := F)) (a := adm) (pdats := pdats m) (ι := ()) (defs₀ := defs₀) (𝒱₀ := Variants.none) (L := LL) (lv := lvl) (p := 0) (D := fun _ => 0) (X := fun _ => BI.emp) (Y := fun _ => BI.emp) (R := fun _ => BI.emp) (W := W1 m) (b := fun _ => 0) (sub0 (F := F)) c
theorem leave0 (c : Dev nD) : (R0 m).post c ⊢ iprop(StableHlo.held (c.tc : Thread nD τ) (Pipeline.ucRefs τ sig) (W2 m c) ∗ rest c) := by
  rw [W2_eq]
  unfold R0 rest
  exact RegionSeg.ofHeldIn_post (D := fun _ => 0) (sub0 (F := F)) c
theorem enter1 (c : Dev nD) : iprop(StableHlo.held (c.tc : Thread nD τ) (Pipeline.ucRefs τ sig) (W2 m c) ∗ rest c) ⊢ (R1 m).pre c := by
  unfold R1 rest
  exact RegionSeg.ofHeldIn_pre (pcs := pcfgs (F := F)) (a := adm) (pdats := pdats m) (ι := ()) (defs₀ := defs₀) (𝒱₀ := Variants.none) (L := LL) (lv := lvl) (p := 1) (D := fun _ => 0) (X := fun _ => BI.emp) (Y := fun _ => BI.emp) (R := fun _ => BI.emp) (W := W2 m) (b := fun _ => 0) (sub1 (F := F)) c
theorem leave1 (c : Dev nD) : (R1 m).post c ⊢ iprop(StableHlo.held (c.tc : Thread nD τ) (Pipeline.ucRefs τ sig) (W3 m c) ∗ rest c) := by
  rw [W3_eq]
  unfold R1 rest
  exact RegionSeg.ofHeldIn_post (D := fun _ => 0) (sub1 (F := F)) c

theorem rest_owes (c : Dev nD) : (rest c : sProp 𝕄) ⊢ iprop(∃ Wd, owes (c : Thread nD τ) (0 : CellTallies nD τ sig Unit) Wd) := by
  unfold rest
  iintro ⟨H, -, -⟩
  iexact H

set_option backward.isDefEq.respectTransparency.types false in
/-- Every weakly fair run of the program ends, with every unscoped buffer of every core at `W3` and every semaphore at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W3 m c b) ∧ r.2.sem = fun _ => 0) := by
  refine Pipeline.θ_run_regions_kit_dev_sems (pcfgs (F := F)) adm (pdats m) () cellOf_inj emb₁ defs₀ Variants.none LL lvl m ρ main
    (segs m Variants.none LL lvl (fun _ => rest) () (pdats m) (R0 m) (R1 m))
    (fun c Q => by
      rewrite [main_chain c, Seg.run_eq_chain,
        show (segs m Variants.none LL lvl (fun _ => rest) () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun g h => by unfold LL; rw [if_neg h])
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (W3 m c))
    (hch := fun c => ⟨.rfl, enter0 m c, (leave0 m c).trans (enter1 m c), (leave1 m c).trans (sep_mono .rfl (rest_owes c))⟩)
    (hinit := ?_) (QY := fun c s => ∀ b ∈ Pipeline.ucRefs τ sig, s.mem ((c.tc : Thread nD τ).1, b) = W3 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach LL lvl fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [HO]; · iexists _; iexact HO
    isplitl <;> iempintro
  · unfold StableHlo.held
    iintro ⟨Hh, HSI⟩
    ihave Hr := (pointsTo_read_all (Pipeline.ucRefs τ sig) (fun b => ((c.tc : Thread nD τ).1, b)) (W3 m c) s') $$ [Hh HSI]
    · isplitl [Hh] <;> iassumption
    imodintro
    iexact Hr

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

theorem inj0 : Function.Injective (Pipeline.arrRef spec0) := winFacts0.arr_inj
theorem inj1 : Function.Injective (Pipeline.arrRef spec1) := winFacts1.arr_inj

/-- A buffer neither pipeline writes holds at the end what the host operations left in it. -/
theorem W3_of (c : Dev nD) (r : Ref sig .tc) (h0 : ∀ w, Pipeline.arrRef spec0 w = r → (cfg0.win w).isOut = false)
    (h1 : ∀ w, Pipeline.arrRef spec1 w = r → (cfg1.win w).isOut = false) : W3 m c (Proc.devRef .tc r) = V1 m c (Proc.devRef .tc r) :=
  (Pipeline.afterRegion_keeps (dat1 (W2 m) c) (W2 m c) inj1 (A1_eq (W2 m) c) r h1).trans
    (Pipeline.afterRegion_keeps (dat0 (W1 m) c) (W1 m c) inj0 (A0_eq (W1 m) c) r h0)
theorem W2_of (c : Dev nD) (r : Ref sig .tc) (h0 : ∀ w, Pipeline.arrRef spec0 w = r → (cfg0.win w).isOut = false) :
    W2 m c (Proc.devRef .tc r) = V1 m c (Proc.devRef .tc r) :=
  Pipeline.afterRegion_keeps (dat0 (W1 m) c) (W1 m c) inj0 (A0_eq (W1 m) c) r h0

theorem W3_main_arg0 (c : Dev nD) : W3 m c (Proc.devRef .tc main_arg0) = m ((c : Thread nD τ).loc main_arg0) :=
  (W3_of m c main_arg0 (by decide) (by decide)).trans ((V1_of m c main_arg0 (by decide)).trans rfl)
theorem W3_main_arg1 (c : Dev nD) : W3 m c (Proc.devRef .tc main_arg1) = m ((c : Thread nD τ).loc main_arg1) :=
  (W3_of m c main_arg1 (by decide) (by decide)).trans ((V1_of m c main_arg1 (by decide)).trans rfl)
theorem W3_main_arg2 (c : Dev nD) : W3 m c (Proc.devRef .tc main_arg2) = m ((c : Thread nD τ).loc main_arg2) :=
  (W3_of m c main_arg2 (by decide) (by decide)).trans ((V1_of m c main_arg2 (by decide)).trans rfl)

/-- The results of the first pipeline at the end. -/
theorem W2_codes (c : Dev nD) : W2 m c (Proc.devRef .tc main_v2_0) = (dat0 (W1 m) c).arrAt 1 cfg0.N := Pipeline.afterRegion_arr (dat0 (W1 m) c) (W1 m c) inj0 1
theorem W2_scale (c : Dev nD) : W2 m c (Proc.devRef .tc main_v2_1) = (dat0 (W1 m) c).arrAt 2 cfg0.N := Pipeline.afterRegion_arr (dat0 (W1 m) c) (W1 m c) inj0 2
theorem W3_codes (c : Dev nD) : W3 m c (Proc.devRef .tc main_v2_0) = W2 m c (Proc.devRef .tc main_v2_0) :=
  Pipeline.afterRegion_keeps (dat1 (W2 m) c) (W2 m c) inj1 (A1_eq (W2 m) c) main_v2_0 (by decide)
theorem W3_scale (c : Dev nD) : W3 m c (Proc.devRef .tc main_v2_1) = W2 m c (Proc.devRef .tc main_v2_1) :=
  Pipeline.afterRegion_keeps (dat1 (W2 m) c) (W2 m c) inj1 (A1_eq (W2 m) c) main_v2_1 (by decide)
/-- The results of the second pipeline at the end. -/
theorem W3_out (c : Dev nD) : W3 m c (Proc.devRef .tc main_v3_0) = (dat1 (W2 m) c).arrAt 4 cfg1.N := Pipeline.afterRegion_arr (dat1 (W2 m) c) (W2 m c) inj1 4
theorem W3_xcodes (c : Dev nD) : W3 m c (Proc.devRef .tc main_v3_1) = (dat1 (W2 m) c).arrAt 5 cfg1.N := Pipeline.afterRegion_arr (dat1 (W2 m) c) (W2 m c) inj1 5
theorem W3_xscale (c : Dev nD) : W3 m c (Proc.devRef .tc main_v3_2) = (dat1 (W2 m) c).arrAt 6 cfg1.N := Pipeline.afterRegion_arr (dat1 (W2 m) c) (W2 m c) inj1 6

/-- The frame: every run ends with the arguments as launched and every semaphore at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (run m ρ).mono fun r h => ⟨fun c => ⟨(h.1 c _ (mem_uc main_arg0 rfl)).trans (W3_main_arg0 m c),
    (h.1 c _ (mem_uc main_arg1 rfl)).trans (W3_main_arg1 m c), (h.1 c _ (mem_uc main_arg2 rfl)).trans (W3_main_arg2 m c)⟩, h.2⟩

end Cert.KernelIdeal.Run
-- ==== Proof.Scale.lean ====
/- The power-of-two scale of a channel, two ways: the kernel's search over the eight bits of the exponent field and
   its bit patterns, and the reference's logarithm and power. Read over the extended reals they are the same value. -/
module

public import Idealize.ShloMosaic.Lib.Pipeline.ValueKit
public import Idealize.ShloMosaic.PureOps.Ideal.Laws
public import Mathlib.Analysis.SpecialFunctions.Log.Basic

@[expose] public section

set_option maxRecDepth 16384

noncomputable section

namespace Cert.Scale

open Idealize.ShloMosaic

/-- The value of the 32-bit float whose exponent field is `k` and whose other bits are zero. -/
def T (k : BitVec 32) : EReal := Ideal.ofBits .f32 (IntOp.shli .vector k 23#32)

/-- One step of the kernel's search: the exponent field found so far grows by `d` where the value is at least the
    power of two the grown field denotes. -/
def step (d : BitVec 32) (y : EReal) (e : BitVec 32) : BitVec 32 :=
  Scalar.select (Ideal.cmp .oge y (T (IntOp.addi e d))) (IntOp.addi e d) e

/-- The kernel's search of an exponent field: eight steps. -/
def bis (y : EReal) : BitVec 32 :=
  step 1#32 y (step 2#32 y (step 4#32 y (step 8#32 y (step 16#32 y (step 32#32 y (step 64#32 y (step 128#32 y 0#32)))))))

/-- The kernel's exponent of a channel with greatest magnitude `a` and ratio `y`. -/
def kexp (a y : EReal) : BitVec 32 :=
  Scalar.select (IntOp.ori (IntOp.ori (IntOp.cmpi .eq (bis y) 0#32) (IntOp.cmpi .eq (bis y) 255#32))
    (Ideal.cmp .oeq a (Ideal.ofBits .f32 0x00000000#32))) 0#32 (IntOp.subi (bis y) 126#32)

/-- The kernel's power of two: the exponent put into the exponent field, clamped to 0 and 255. -/
def kpow (n : BitVec 32) : EReal := T (IntOp.minsi 255#32 (IntOp.maxsi 0#32 (IntOp.addi n 127#32)))

/-- The kernel's scale of a channel. -/
def kscale (a y : EReal) : EReal := kpow (kexp a y)
/-- The kernel's inverse scale of a channel. -/
def kinv (a y : EReal) : EReal := kpow (IntOp.subi 0#32 (kexp a y))

/-- The reference's exponent of a channel with greatest magnitude `a` and ratio `y`. -/
def rexp (a y : EReal) : EReal :=
  Scalar.select (Ideal.cmp .oeq a (Ideal.ofBits .f32 0x00000000#32)) (Ideal.ofBits .f32 0x00000000#32)
    (Scalar.select (IntOp.ori (Ideal.cmp .olt y (Ideal.ofBits .f32 0x00800000#32))
        (Ideal.cmp .oeq (max y (-y)) (Ideal.ofBits .f32 0x7F800000#32)))
      (Ideal.ofBits .f32 0x00000000#32)
      (Ideal.liftRound Int.floor (Ideal.div (Ideal.log y) (Ideal.log (Ideal.ofBits .f32 0x40000000#32)))
        + Ideal.ofBits .f32 0x3F800000#32))

/-- The reference's power of two, saturated to the range of a 32-bit float. -/
def rpow (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32) (Ideal.exp2 e))

/-- The reference's scale of a channel. -/
def rscale (a y : EReal) : EReal := rpow (rexp a y)
/-- The reference's inverse scale of a channel. -/
def rinv (a y : EReal) : EReal := rpow (Ideal.ofBits .f32 0x00000000#32 - rexp a y)

theorem ob_t : BitVec.ofBool true = 1#1 := rfl
theorem ob_f : BitVec.ofBool false = 0#1 := rfl

/-! ### The values of the constants -/

/-- The fields of a pattern with exponent field `k` and nothing else. -/
theorem fields : ∀ k : Fin 256, ((IntOp.shli .vector (BitVec.ofNat 32 k.val) 23#32).extractLsb' 23 8).toNat = k.val
    ∧ ((IntOp.shli .vector (BitVec.ofNat 32 k.val) 23#32).extractLsb' 0 23).toNat = 0
    ∧ ((IntOp.shli .vector (BitVec.ofNat 32 k.val) 23#32).extractLsb' 31 1 == 1#1) = false := by decide +kernel

/-- The value of exponent field `k`: zero, a power of two, or infinity. -/
theorem T_eq (k : ℕ) (hk : k < 256) :
    T (BitVec.ofNat 32 k) = if k = 255 then ⊤ else if k = 0 then 0 else (((2:ℝ) ^ ((k:ℤ) - 127) : ℝ) : EReal) := by
  obtain ⟨h1, h2, h3⟩ := fields ⟨k, hk⟩
  have e8 : (8:ℕ) + 23 = 31 := rfl
  simp only [T, Ideal.ofBits, Ideal.ieee, e8, h1, h2, h3]
  by_cases a : k = 255
  · simp [a]
  · by_cases b : k = 0
    · simp [b]
    · have hz : (2:ℝ) ^ ((k:ℤ) - 127) = 8388608 * 2 ^ ((k:ℤ) - 127 - 23) := by
        rw [show (8388608:ℝ) = 2 ^ (23:ℤ) by norm_num]
        rw [← zpow_add₀ (by norm_num : (2:ℝ) ≠ 0)]; exact congrArg (fun n : ℤ => (2:ℝ) ^ n) (by ring)
      simp [a, b, hz]

/-- A constant with zero fraction, by its fields. -/
theorem c_zero : Ideal.ofBits .f32 0x00000000#32 = (0 : EReal) := Ideal.ofBits_zero_f32
theorem c_one : Ideal.ofBits .f32 0x3F800000#32 = (1 : EReal) := Ideal.ofBits_one_f32
theorem c_inf : Ideal.ofBits .f32 0x7F800000#32 = (⊤ : EReal) := by
  have : Ideal.ofBits .f32 0x7F800000#32 = T (BitVec.ofNat 32 255) := rfl
  rw [this, T_eq _ (by decide)]; simp
theorem c_two : Ideal.ofBits .f32 0x40000000#32 = ((2 : ℝ) : EReal) := by
  have : Ideal.ofBits .f32 0x40000000#32 = T (BitVec.ofNat 32 128) := rfl
  rw [this, T_eq _ (by decide)]; simp
theorem c_min : Ideal.ofBits .f32 0x00800000#32 = T (BitVec.ofNat 32 1) := rfl
theorem c_127 : Ideal.ofBits .f32 0x42FE0000#32 = ((127 : ℝ) : EReal) := by
  have h1 : (((0x42FE0000#32).extractLsb' 23 8).toNat) = 133 := by decide
  have h2 : (((0x42FE0000#32).extractLsb' 0 23).toNat) = 0x7E0000 := by decide
  have h3 : ((0x42FE0000#32).extractLsb' 31 1 == 1#1) = false := by decide
  have e8 : (8:ℕ) + 23 = 31 := rfl
  simp only [Ideal.ofBits, Ideal.ieee, e8, h1, h2, h3]
  norm_num [zpow_neg]
theorem c_m126 : Ideal.ofBits .f32 0xC2FC0000#32 = ((-126 : ℝ) : EReal) := by
  have h1 : (((0xC2FC0000#32).extractLsb' 23 8).toNat) = 133 := by decide
  have h2 : (((0xC2FC0000#32).extractLsb' 0 23).toNat) = 0x7C0000 := by decide
  have h3 : ((0xC2FC0000#32).extractLsb' 31 1 == 1#1) = true := by decide
  have e8 : (8:ℕ) + 23 = 31 := rfl
  simp only [Ideal.ofBits, Ideal.ieee, e8, h1, h2, h3]
  norm_num [zpow_neg]

/-! ### The exponent field of a value -/

/-- The powers of two grow with the exponent field. -/
theorem T_mono (j k : ℕ) (hjk : j ≤ k) (hk : k < 256) : T (BitVec.ofNat 32 j) ≤ T (BitVec.ofNat 32 k) := by
  rw [T_eq j (by omega), T_eq k hk]
  by_cases a : k = 255
  · simp [a]
  · rw [if_neg a, if_neg (by omega : ¬ j = 255)]
    by_cases b : j = 0
    · rw [if_pos b]
      split_ifs
      · exact le_rfl
      · exact_mod_cast (by positivity : (0:ℝ) ≤ _)
    · rw [if_neg b, if_neg (by omega : ¬ k = 0), EReal.coe_le_coe_iff]
      exact zpow_le_zpow_right₀ (by norm_num) (by omega)

/-- The exponent field of a value: the greatest whose power of two the value reaches. -/
def fld (y : EReal) : ℕ := by
  classical exact Nat.findGreatest (fun k => T (BitVec.ofNat 32 k) ≤ y) 255

theorem fld_le (y : EReal) : fld y ≤ 255 := by
  classical exact Nat.findGreatest_le 255

/-- A value reaches the power of two of a positive field exactly when the field is at most the value's. -/
theorem le_iff (y : EReal) (k : ℕ) (h0 : 0 < k) (hk : k < 256) : T (BitVec.ofNat 32 k) ≤ y ↔ k ≤ fld y := by
  classical
  constructor
  · intro h; exact Nat.le_findGreatest (P := fun k => T (BitVec.ofNat 32 k) ≤ y) (by omega) h
  · intro h
    have hf : T (BitVec.ofNat 32 (fld y)) ≤ y :=
      Nat.findGreatest_of_ne_zero (P := fun k => T (BitVec.ofNat 32 k) ≤ y) (n := 255) rfl (by omega)
    exact (T_mono k _ h (by have := fld_le y; omega)).trans hf

/-- The step of the search on fields alone: against a known field `b`. -/
def stepN (d : ℕ) (b : ℕ) (e : ℕ) : ℕ := if e + d ≤ b then e + d else e

theorem step_eq (y : EReal) (d e : ℕ) (hd : 0 < d) (he : e + d < 256) :
    step (BitVec.ofNat 32 d) y (BitVec.ofNat 32 e) = BitVec.ofNat 32 (stepN d (fld y) e) := by
  have ha : IntOp.addi (BitVec.ofNat 32 e) (BitVec.ofNat 32 d) = BitVec.ofNat 32 (e + d) := by
    simp [IntOp.addi, BitVec.ofNat_add]
  rw [step, ha, stepN]
  by_cases h : e + d ≤ fld y
  · have := (le_iff y (e + d) (by omega) he).2 h
    simp [Ideal.cmp, this, h, Scalar.select]
  · have : ¬ T (BitVec.ofNat 32 (e + d)) ≤ y := fun hh => h ((le_iff y (e + d) (by omega) he).1 hh)
    simp [Ideal.cmp, this, h, Scalar.select]

/-- The eight steps find every field. -/
theorem stepsN : ∀ b : Fin 256, stepN 1 b (stepN 2 b (stepN 4 b (stepN 8 b (stepN 16 b (stepN 32 b (stepN 64 b (stepN 128 b 0))))))) = b.val := by
  decide +kernel

theorem stepN_le (d b e N : ℕ) (h : e + d ≤ N) : stepN d b e ≤ N := by
  unfold stepN; split_ifs <;> omega

/-- The kernel's search finds the exponent field of the value. -/
theorem bis_eq (y : EReal) : bis y = BitVec.ofNat 32 (fld y) := by
  have hb := fld_le y
  have h1 := stepN_le 128 (fld y) 0 128 (by omega)
  have h2 := stepN_le 64 (fld y) _ 192 (by omega : stepN 128 (fld y) 0 + 64 ≤ 192)
  have h3 := stepN_le 32 (fld y) _ 224 (by omega : stepN 64 (fld y) (stepN 128 (fld y) 0) + 32 ≤ 224)
  have h4 := stepN_le 16 (fld y) _ 240 (Nat.add_le_add_right h3 16)
  have h5 := stepN_le 8 (fld y) _ 248 (Nat.add_le_add_right h4 8)
  have h6 := stepN_le 4 (fld y) _ 252 (Nat.add_le_add_right h5 4)
  have h7 := stepN_le 2 (fld y) _ 254 (Nat.add_le_add_right h6 2)
  have key := stepsN ⟨fld y, by omega⟩
  unfold bis
  rw [step_eq y 128 0 (by omega) (by omega), step_eq y 64 _ (by omega) (by omega), step_eq y 32 _ (by omega) (by omega),
    step_eq y 16 _ (by omega) (by omega), step_eq y 8 _ (by omega) (by omega), step_eq y 4 _ (by omega) (by omega),
    step_eq y 2 _ (by omega) (by omega), step_eq y 1 _ (by omega) (by omega), key]

/-! ### Both scales by the field -/

/-- The kernel's exponent on fields, where the channel is not all zero. -/
def fexp (b : ℕ) : BitVec 32 :=
  Scalar.select (IntOp.ori (IntOp.cmpi .eq (BitVec.ofNat 32 b) 0#32) (IntOp.cmpi .eq (BitVec.ofNat 32 b) 255#32)) 0#32
    (IntOp.subi (BitVec.ofNat 32 b) 126#32)

/-- The field of the kernel's scale: 127 at a special field, one above the field else. -/
theorem kfield : ∀ b : Fin 256, IntOp.minsi 255#32 (IntOp.maxsi 0#32 (IntOp.addi (fexp b) 127#32))
      = BitVec.ofNat 32 (if b.val = 0 ∨ b.val = 255 then 127 else b.val + 1)
    ∧ IntOp.minsi 255#32 (IntOp.maxsi 0#32 (IntOp.addi (IntOp.subi 0#32 (fexp b)) 127#32))
      = BitVec.ofNat 32 (if b.val = 0 ∨ b.val = 255 then 127 else 253 - b.val) := by decide +kernel

theorem kexp_zero (a y : EReal) (h : a = 0) : kexp a y = 0#32 := by
  have : IntOp.ori (IntOp.ori (IntOp.cmpi .eq (bis y) 0#32) (IntOp.cmpi .eq (bis y) 255#32)) 1#1 = 1#1 := by
    generalize IntOp.ori (IntOp.cmpi .eq (bis y) 0#32) (IntOp.cmpi .eq (bis y) 255#32) = z
    revert z; decide
  simp only [kexp, c_zero, Ideal.cmp, h, decide_true, ob_t, this]; rfl

theorem kexp_ne (a y : EReal) (h : a ≠ 0) : kexp a y = fexp (fld y) := by
  have e : ∀ z : BitVec 1, IntOp.ori z 0#1 = z := by decide
  simp [kexp, c_zero, Ideal.cmp, h, bis_eq, fexp, e]

theorem T127 : T (BitVec.ofNat 32 127) = 1 := by rw [T_eq _ (by decide)]; norm_num

theorem kscale_zero (a y : EReal) (h : a = 0) : kscale a y = 1 ∧ kinv a y = 1 := by
  unfold kscale kinv; rw [kexp_zero a y h]; exact ⟨T127, T127⟩

theorem kscale_ne (a y : EReal) (h : a ≠ 0) :
    kscale a y = T (BitVec.ofNat 32 (if fld y = 0 ∨ fld y = 255 then 127 else fld y + 1))
    ∧ kinv a y = T (BitVec.ofNat 32 (if fld y = 0 ∨ fld y = 255 then 127 else 253 - fld y)) := by
  have hb := kfield ⟨fld y, by have := fld_le y; omega⟩
  unfold kscale kinv kpow; rw [kexp_ne a y h]
  exact ⟨congrArg T hb.1, congrArg T hb.2⟩

theorem select_one {α : Type} (x y : α) : Scalar.select 1#1 x y = x := rfl
theorem select_zero {α : Type} (x y : α) : Scalar.select 0#1 x y = y := rfl

/-- The reference's power of two of a whole exponent in range. -/
theorem rpow_in (n : ℤ) (h1 : -126 ≤ n) (h2 : n ≤ 127) : rpow (((n:ℝ)) : EReal) = (((2:ℝ) ^ n : ℝ) : EReal) := by
  have a1 : ¬ ((127:ℝ) : EReal) < ((n:ℝ) : EReal) := by
    rw [EReal.coe_lt_coe_iff, not_lt]; exact_mod_cast h2
  have a2 : ¬ ((n:ℝ) : EReal) < ((-126:ℝ) : EReal) := by
    rw [EReal.coe_lt_coe_iff, not_lt]; exact_mod_cast h1
  simp only [rpow, c_127, c_m126, Ideal.cmp, a1, a2, decide_false, ob_f, select_zero]
  show (((Real.rpow 2 (n:ℝ)) : ℝ) : EReal) = _
  congr 1
  exact Real.rpow_intCast 2 n

theorem rpow_big (n : ℤ) (h : 127 < n) : rpow (((n:ℝ)) : EReal) = ⊤ := by
  have a1 : ((127:ℝ) : EReal) < ((n:ℝ) : EReal) := by
    rw [EReal.coe_lt_coe_iff]; exact_mod_cast h
  simp only [rpow, c_127, c_inf, Ideal.cmp, a1, decide_true, ob_t, select_one]

theorem rpow_small (n : ℤ) (h : n < -126) : rpow (((n:ℝ)) : EReal) = 0 := by
  have a1 : ¬ ((127:ℝ) : EReal) < ((n:ℝ) : EReal) := by
    rw [EReal.coe_lt_coe_iff, not_lt]; have : n ≤ 127 := by omega
    exact_mod_cast this
  have a2 : ((n:ℝ) : EReal) < ((-126:ℝ) : EReal) := by
    rw [EReal.coe_lt_coe_iff]; exact_mod_cast h
  simp only [rpow, c_127, c_m126, c_zero, Ideal.cmp, a1, a2, decide_false, decide_true, ob_t, ob_f, select_zero, select_one]

theorem rpow_zero : rpow 0 = 1 := by
  have := rpow_in 0 (by norm_num) (by norm_num)
  simpa using this

theorem rexp_zero (a y : EReal) (h : a = 0) : rexp a y = 0 := by
  simp only [rexp, c_zero, Ideal.cmp, h, decide_true, ob_t, select_one]

/-- The reference's exponent at a value that is special: below the least normal or infinite. -/
theorem rexp_special (a y : EReal) (h : fld y = 0 ∨ fld y = 255) : rexp a y = 0 := by
  by_cases ha : a = 0
  · exact rexp_zero a y ha
  have ho : ∀ z : BitVec 1, IntOp.ori 1#1 z = 1#1 ∧ IntOp.ori z 1#1 = 1#1 := by decide
  rcases h with h | h
  · have : y < T (BitVec.ofNat 32 1) := by
      rw [← not_le, le_iff y 1 (by omega) (by omega)]; omega
    simp only [rexp, c_zero, c_min, Ideal.cmp, ha, this, decide_true, decide_false, ob_t, ob_f, select_zero, (ho _).1, select_one]
  · have : T (BitVec.ofNat 32 255) ≤ y := (le_iff y 255 (by omega) (by omega)).2 (by omega)
    rw [T_eq _ (by decide), if_pos rfl, top_le_iff] at this
    have e : max y (-y) = ⊤ := by rw [this]; simp
    simp only [rexp, c_zero, c_inf, Ideal.cmp, ha, e, decide_true, decide_false, ob_t, ob_f, select_zero, (ho _).2, select_one]

/-- The reference's exponent at a positive real at least the least normal: one above the floor of its logarithm. -/
theorem rexp_real (a : EReal) (r : ℝ) (ha : a ≠ 0) (h : T (BitVec.ofNat 32 1) ≤ (r : EReal)) :
    rexp a r = (((Int.floor (Real.log r / Real.log 2) + 1 : ℤ) : ℝ) : EReal) := by
  have hpos : 0 < r := by
    rw [T_eq _ (by decide), if_neg (by decide), if_neg (by decide), EReal.coe_le_coe_iff] at h
    exact lt_of_lt_of_le (by positivity) h
  have h1 : ¬ (r : EReal) < T (BitVec.ofNat 32 1) := not_lt.2 h
  have h2 : ¬ max (r : EReal) (-(r:EReal)) = ⊤ := by
    intro hh
    rcases max_choice (r : EReal) (-(r:EReal)) with e | e <;> rw [e] at hh
    · exact EReal.coe_ne_top r hh
    · rw [← EReal.coe_neg] at hh; exact EReal.coe_ne_top _ hh
  have hl : Ideal.log (r : EReal) = ((Real.log r : ℝ) : EReal) := by
    show (if r ≤ 0 then ⊥ else ((Real.log r : ℝ) : EReal)) = _
    rw [if_neg (not_le.2 hpos)]
  have hl2 : Ideal.log ((2:ℝ) : EReal) = ((Real.log 2 : ℝ) : EReal) := by
    show (if (2:ℝ) ≤ 0 then ⊥ else ((Real.log 2 : ℝ) : EReal)) = _
    rw [if_neg (by norm_num)]
  have hz : Real.log 2 ≠ 0 := (Real.log_pos (by norm_num)).ne'
  have hd : Ideal.div ((Real.log r : ℝ) : EReal) ((Real.log 2 : ℝ) : EReal) = ((Real.log r / Real.log 2 : ℝ) : EReal) := by
    unfold Ideal.div
    rw [if_neg (by exact_mod_cast hz), ← EReal.coe_inv, ← EReal.coe_mul, div_eq_mul_inv]
  have ho : IntOp.ori (0#1) (0#1) = 0#1 := by decide
  simp only [rexp, c_zero, c_min, c_inf, c_one, c_two, Ideal.cmp, ha, h1, h2, decide_true, decide_false, ob_f, select_zero, ho, hl, hl2, hd, Ideal.liftRound_coe]
  push_cast; rfl

/-- The kernel's scale and inverse scale of a channel are the reference's, whatever the channel's greatest magnitude
    and ratio are. -/
theorem kscale_eq_rscale (a y : EReal) : kscale a y = rscale a y ∧ kinv a y = rinv a y := by
  unfold rscale rinv
  by_cases ha : a = 0
  · rw [rexp_zero a y ha, c_zero, sub_zero, rpow_zero]; exact kscale_zero a y ha
  obtain ⟨k1, k2⟩ := kscale_ne a y ha
  rw [k1, k2]
  by_cases hs : fld y = 0 ∨ fld y = 255
  · rw [if_pos hs, if_pos hs, rexp_special a y hs, c_zero, sub_zero, rpow_zero]; exact ⟨T127, T127⟩
  rw [if_neg hs, if_neg hs]
  have hb := fld_le y
  have hlo : T (BitVec.ofNat 32 (fld y)) ≤ y := (le_iff y _ (by omega) (by omega)).2 le_rfl
  have hmin : T (BitVec.ofNat 32 1) ≤ y := (le_iff y 1 (by omega) (by omega)).2 (by omega)
  have hhi : y < T (BitVec.ofNat 32 (fld y + 1)) := by
    rw [← not_le, le_iff y _ (by omega) (by omega)]; omega
  induction y using EReal.rec with
  | bot => rw [T_eq _ (by decide), if_neg (by decide), if_neg (by decide)] at hmin; exact absurd hmin (by simp)
  | top => exact absurd hhi (not_lt.2 le_top)
  | coe r =>
    rw [rexp_real a r ha hmin]
    generalize hbb : fld (r : EReal) = b at *
    rw [T_eq b (by omega), if_neg (by omega), if_neg (by omega), EReal.coe_le_coe_iff] at hlo
    have hpos : 0 < r := lt_of_lt_of_le (by positivity) hlo
    have f1 : (b : ℤ) - 127 ≤ Int.floor (Real.log r / Real.log 2) := by
      rw [Int.le_floor, le_div_iff₀ (Real.log_pos (by norm_num)), ← Real.log_zpow]
      exact Real.log_le_log (by positivity) hlo
    rw [c_zero, zero_sub, ← EReal.coe_neg, ← Int.cast_neg]
    rw [T_eq (b+1) (by omega)] at hhi ⊢
    rw [T_eq (253 - b) (by omega)]
    by_cases h254 : b = 254
    · subst h254
      rw [rpow_big _ (by omega), rpow_small _ (by omega)]
      exact ⟨by simp, by simp⟩
    · rw [if_neg (by omega), if_neg (by omega)] at hhi ⊢
      rw [EReal.coe_lt_coe_iff] at hhi
      have f2 : Int.floor (Real.log r / Real.log 2) < (b : ℤ) - 126 := by
        rw [Int.floor_lt, div_lt_iff₀ (Real.log_pos (by norm_num)), ← Real.log_zpow]
        refine Real.log_lt_log hpos (lt_of_lt_of_eq hhi ?_)
        exact congrArg (fun n : ℤ => (2:ℝ) ^ n) (by push_cast; ring)
      have f3 : Int.floor (Real.log r / Real.log 2) + 1 = (b : ℤ) - 126 := by omega
      rw [f3, rpow_in _ (by omega) (by omega), if_neg (by omega)]
      refine ⟨congrArg (fun n : ℤ => (((2:ℝ) ^ n : ℝ) : EReal)) (by push_cast; ring), ?_⟩
      by_cases h253 : b = 253
      · subst h253
        rw [rpow_small _ (by norm_num)]; simp
      · rw [if_neg (by omega), rpow_in _ (by omega) (by omega)]
        exact congrArg (fun n : ℤ => (((2:ℝ) ^ n : ℝ) : EReal)) (by omega)

end Cert.Scale
-- ==== Proof.IVals.lean ====
/- What the two kernel bodies compute, element by element, over the extended reals. -/
module

public import proofs.«01_k».proof.Proof.IBodies
public import proofs.«01_k».proof.Proof.Scale
public import Idealize.ShloMosaic.Lib.Pipeline.ValueKit

@[expose] public section

set_option maxRecDepth 16384

noncomputable section

namespace Cert.KernelIdeal.Run

open Cert.KernelIdeal.Gen Cert.Scale
open Idealize.ShloMosaic

/-- The greatest magnitude of a channel, from minus infinity. -/
def amax (f : Fin 8192 → EReal) : EReal := Finset.univ.fold max ⊥ fun i => max (f i) (-(f i))

theorem c_ninf16 : Ideal.ofBits .bf16 0xFF80#16 = (⊥ : EReal) := by
  have h1 : (((0xFF80#16).extractLsb' 7 8).toNat) = 255 := by decide
  have h2 : (((0xFF80#16).extractLsb' 0 7).toNat) = 0 := by decide
  have h3 : ((0xFF80#16).extractLsb' 15 1 == 1#1) = true := by decide
  have e8 : (8:ℕ) + 7 = 15 := rfl
  simp only [Ideal.ofBits, Ideal.ieee, e8, h1, h2, h3]
  norm_num
theorem c_ninf32 : Ideal.ofBits .f32 0xFF800000#32 = (⊥ : EReal) := by
  have h1 : (((0xFF800000#32).extractLsb' 23 8).toNat) = 255 := by decide
  have h2 : (((0xFF800000#32).extractLsb' 0 23).toNat) = 0 := by decide
  have h3 : ((0xFF800000#32).extractLsb' 31 1 == 1#1) = true := by decide
  have e8 : (8:ℕ) + 23 = 31 := rfl
  simp only [Ideal.ofBits, Ideal.ieee, e8, h1, h2, h3]
  norm_num

/-- One step of the search on a row of channels. -/
def vstep (d : BitVec 32) (y : FVec Ideal S1x256 .f32) (e : IVec S1x256 32) : IVec S1x256 32 :=
  select (cmpf .oge y (bitcastToFloat .f32 (shli (addi e (broadcast S1x256 d)) (broadcast S1x256 23#32))))
    (addi e (broadcast S1x256 d)) e

theorem vstep_apply (d : BitVec 32) (y : FVec Ideal S1x256 .f32) (e : IVec S1x256 32) (j : S1x256.Idx) :
    vstep d y e j = step d (y j) (e j) := by
  unfold vstep step; exact (rfl)

theorem bcast0 (j : S1x256.Idx) : broadcast S1x256 0#32 j = 0#32 := (rfl)

theorem pay7_0 (x : Vec Ideal S8192x256 .bf16) :
    k0_pay7 x = vstep 32#32 (k0_pay6 x) (vstep 64#32 (k0_pay6 x) (vstep 128#32 (k0_pay6 x) (broadcast S1x256 0#32))) := rfl
theorem pay8_0 (x : Vec Ideal S8192x256 .bf16) :
    exp0 x = vstep 1#32 (k0_pay6 x) (vstep 2#32 (k0_pay6 x) (vstep 4#32 (k0_pay6 x) (vstep 8#32 (k0_pay6 x)
      (vstep 16#32 (k0_pay6 x) (k0_pay7 x))))) := rfl
theorem bis0 (x : Vec Ideal S8192x256 .bf16) (j : S1x256.Idx) : exp0 x j = bis (k0_pay6 x j) := by
  rw [pay8_0, pay7_0, vstep_apply, vstep_apply, vstep_apply, vstep_apply, vstep_apply, vstep_apply, vstep_apply, vstep_apply, bcast0, bis]
theorem pay7_1 (x : Vec Ideal S8192x256 .bf16) :
    k1_pay7 x = vstep 32#32 (k1_pay6 x) (vstep 64#32 (k1_pay6 x) (vstep 128#32 (k1_pay6 x) (broadcast S1x256 0#32))) := rfl
theorem pay8_1 (x : Vec Ideal S8192x256 .bf16) :
    exp1 x = vstep 1#32 (k1_pay6 x) (vstep 2#32 (k1_pay6 x) (vstep 4#32 (k1_pay6 x) (vstep 8#32 (k1_pay6 x)
      (vstep 16#32 (k1_pay6 x) (k1_pay7 x))))) := rfl
theorem bis1 (x : Vec Ideal S8192x256 .bf16) (j : S1x256.Idx) : exp1 x j = bis (k1_pay6 x j) := by
  rw [pay8_1, pay7_1, vstep_apply, vstep_apply, vstep_apply, vstep_apply, vstep_apply, vstep_apply, vstep_apply, vstep_apply, bcast0, bis]

theorem pay5_0 (x : Vec Ideal S8192x256 .bf16) (j : S1x256.Idx) :
    k0_pay5 x j = amax fun i => x (ix2 i (j 1)) := by
  unfold k0_pay5 k0_pay4 amax
  pointwise
  rw [c_ninf16]; rfl
theorem pay5_1 (x : Vec Ideal S8192x256 .bf16) (j : S1x256.Idx) :
    k1_pay5 x j = amax fun i => x (ix2 i (j 1)) := by
  unfold k1_pay5 k1_pay4 amax
  pointwise
  rw [c_ninf16]; rfl

/-- The exponents of a row of channels, of which the search found `e`. -/
def vexp (a : FVec Ideal S1x256 .f32) (e : IVec S1x256 32) : IVec S1x256 32 :=
  select (ori (ori (cmpi .eq e (broadcast S1x256 0#32)) (cmpi .eq e (broadcast S1x256 255#32)))
    (cmpf .oeq a (broadcast S1x256 (Scalar.ofBits .f32 0x00000000#32)))) (broadcast S1x256 0#32) (subi e (broadcast S1x256 126#32))

theorem vexp_apply (a : FVec Ideal S1x256 .f32) (y : EReal) (e : IVec S1x256 32) (j : S1x256.Idx) (h : e j = bis y) :
    vexp a e j = kexp (a j) y := by
  unfold vexp kexp
  rw [← h]; rfl

theorem exp_0 (x : Vec Ideal S8192x256 .bf16) :
    k0_pay1 (k0_pay5 x) (exp0 x) (special0 x) (k0_pay11 (F := Ideal)) = vexp (k0_pay5 x) (exp0 x) := rfl
theorem exp_1 (x : Vec Ideal S8192x256 .bf16) :
    k1_pay13 (exp1 x) (special1 x) (zero1 x) = vexp (k1_pay5 x) (exp1 x) := rfl

/-- A row times a constant, at a channel. -/
theorem mul_bcast (a : FVec Ideal S1x256 .f32) (b : Ideal .f32) (j) : mulf a (broadcast S1x256 b) j = a j * b := rfl

/-- The ratio of a channel of `dy`: its greatest magnitude over the largest code. -/
def ratD (a : EReal) : EReal := a * FloatOps.ofBits (F := Ideal) .f32 0x37924925#32
/-- The ratio of a channel of `x`: its greatest magnitude over the largest code. -/
def ratX (a : EReal) : EReal := a * FloatOps.ofBits (F := Ideal) .f32 0x3B124925#32

theorem pay6_0 (x : Vec Ideal S8192x256 .bf16) (j : S1x256.Idx) : k0_pay6 x j = ratD (k0_pay5 x j) := by
  unfold k0_pay6 ratD; generalize k0_pay5 x = a
  exact mul_bcast _ _ _
theorem pay6_1 (x : Vec Ideal S8192x256 .bf16) (j : S1x256.Idx) : k1_pay6 x j = ratX (k1_pay5 x j) := by
  unfold k1_pay6 ratX; generalize k1_pay5 x = a
  exact mul_bcast _ _ _

/-- The scale of a channel of `dy` as the kernel computes it. -/
theorem scale0_apply (x : Vec Ideal S8192x256 .bf16) (j : S1x256.Idx) :
    scale0 x j = kscale (amax fun i => x (ix2 i (j 1))) (ratD (amax fun i => x (ix2 i (j 1)))) := by
  unfold scale0 k0_pay2
  rw [exp_0, ← pay5_0 x j, ← pay6_0, kscale, ← vexp_apply (k0_pay5 x) (k0_pay6 x j) (exp0 x) j (bis0 x j)]
  rfl
/-- The scale of a channel of `x` as the kernel computes it. -/
theorem scale1_apply (x : Vec Ideal S8192x256 .bf16) (j : S1x256.Idx) :
    scale1 x j = kscale (amax fun i => x (ix2 i (j 1))) (ratX (amax fun i => x (ix2 i (j 1)))) := by
  unfold scale1 k1_pay14
  rw [exp_1, ← pay5_1 x j, ← pay6_1, kscale, ← vexp_apply (k1_pay5 x) (k1_pay6 x j) (exp1 x) j (bis1 x j)]
  rfl

/-- The clip of the codes of `dy`. -/
def clipD (v : EReal) : EReal := min (Ideal.ofBits .f32 0x47600000#32) (max (Ideal.ofBits .f32 0xC7600000#32) v)
/-- The clip of the codes of `x`. -/
def clipX (v : EReal) : EReal := min (Ideal.ofBits .f32 0x43E00000#32) (max (Ideal.ofBits .f32 0xC3E00000#32) v)

/-- A row of inverse scales of the exponents `n`. -/
def vinv (n : IVec S1x256 32) : FVec Ideal S1x256 .f32 :=
  bitcastToFloat .f32 (shli (minsi (broadcast S1x256 255#32) (maxsi (broadcast S1x256 0#32)
    (addi (subi (broadcast S1x256 0#32) n) (broadcast S1x256 127#32)))) (broadcast S1x256 23#32))

theorem vinv_apply (a : FVec Ideal S1x256 .f32) (y : EReal) (e : IVec S1x256 32) (j : S1x256.Idx) (h : e j = bis y) :
    vinv (vexp a e) j = kinv (a j) y := by
  rw [kinv, ← vexp_apply a y e j h]; rfl

theorem codes0_eq (x : Vec Ideal S8192x256 .bf16) (j : S8192x256.Idx) :
    codes0 x j = clipD (x j * vinv (vexp (k0_pay5 x) (exp0 x)) (ix2 0 (j 1))) := by
  rw [← exp_0]
  unfold codes0 k0_pay3 k0_pay4 vinv clipD
  pointwise
  try rfl
theorem pre1_eq (x : Vec Ideal S8192x256 .bf16) (j : S8192x256.Idx) :
    pre1 x j = clipX (x j * vinv (vexp (k1_pay5 x) (exp1 x)) (ix2 0 (j 1))) := by
  rw [← exp_1]
  unfold pre1 k1_pay16 k1_pay4 vinv clipX
  pointwise
  try rfl

/-- A code of `dy` as the kernel computes it. -/
theorem codes0_apply (x : Vec Ideal S8192x256 .bf16) (j : S8192x256.Idx) :
    codes0 x j = clipD (x j * kinv (amax fun i => x (ix2 i (j 1))) (ratD (amax fun i => x (ix2 i (j 1))))) := by
  rw [codes0_eq, vinv_apply _ _ _ _ (bis0 x (ix2 0 (j 1))), pay6_0, pay5_0]; rfl
/-- A code of `x` as the kernel computes it. -/
theorem pre1_apply (x : Vec Ideal S8192x256 .bf16) (j : S8192x256.Idx) :
    pre1 x j = clipX (x j * kinv (amax fun i => x (ix2 i (j 1))) (ratX (amax fun i => x (ix2 i (j 1))))) := by
  rw [pre1_eq, vinv_apply _ _ _ _ (bis1 x (ix2 0 (j 1))), pay6_1, pay5_1]; rfl
theorem codes1_apply (x : Vec Ideal S8192x256 .bf16) (j : S8192x256.Idx) :
    codes1 x j = clipX (x j * kinv (amax fun i => x (ix2 i (j 1))) (ratX (amax fun i => x (ix2 i (j 1))))) := by
  rw [← pre1_apply]; rfl
/-- The transposed codes are the codes. -/
theorem xt1_apply (x : Vec Ideal S8192x256 .bf16) (j : S256x8192.Idx) : xt1 x j = codes1 x (ix2 (j 1) (j 0)) := by
  unfold xt1 k1_pay2 codes1 k1_pay1
  pointwise
/-- The kept column of scales is the scales. -/
theorem scol1_apply (x : Vec Ideal S8192x256 .bf16) (j : S256x128.Idx) : scol1 x j = scale1 x (ix2 0 (j 0)) := by
  unfold scol1 k1_pay15 scale1
  pointwise

end Cert.KernelIdeal.Run
-- ==== Proof.ITile.lean ====
/- The tile of the gradient the second kernel writes, element by element, over the extended reals. -/
module

public import proofs.«01_k».proof.Proof.IVals
public import Idealize.ShloMosaic.Lib.Pipeline.ValueKit

@[expose] public section

set_option maxRecDepth 16384

noncomputable section

namespace Cert.KernelIdeal.Run

open Cert.KernelIdeal.Gen Cert.Scale
open Idealize.ShloMosaic

/-- Four copies of a column side by side are the column. -/
theorem cat4 (g : Fin 256 → EReal) (v10 : Vec Ideal S256x128 .f32) (h : ∀ j, v10 j = g (j 0)) (y : S256x512.Idx) :
    concatenate S256x512 1 [⟨S256x128, v10⟩, ⟨S256x128, v10⟩, ⟨S256x128, v10⟩, ⟨S256x128, v10⟩] concatenates_S256x128_S256x128_S256x128_S256x128_S256x512_d1 y = g (y 0) := by
  obtain rfl : v10 = fun j => g (j 0) := funext h
  pointwise
  split_ifs <;> rfl

/-- The arithmetic of a tile: the gradient's element plus the product of the codes times the product of the scales. -/
theorem pay3_apply (v6 : Vec Ideal S8192x512 .fp8e5m2) (v8 : Vec Ideal S256x8192 .fp8e4m3) (g : Fin 256 → EReal) (v10 : Vec Ideal S256x128 .f32)
    (h : ∀ j, v10 j = g (j 0)) (v15 : Vec Ideal S1x512 .f32) (v17 : Vec Ideal S256x512 .f32) (y : S256x512.Idx) :
    k1_pay3 v6 v8 v10 v15 v17 y = v17 y + (∑ k : Fin 8192, (v8 (ix2 (y 0) k) : EReal) * v6 (ix2 k (y 1))) * (g (y 0) * v15 (ix2 0 (y 1))) := by
  unfold k1_pay3
  rw [← cat4 g v10 h y]
  generalize concatenate S256x512 1 [⟨S256x128, v10⟩, ⟨S256x128, v10⟩, ⟨S256x128, v10⟩, ⟨S256x128, v10⟩] concatenates_S256x128_S256x128_S256x128_S256x128_S256x512_d1 = w
  pointwise

end Cert.KernelIdeal.Run
-- ==== Proof.IArr.lean ====
/- What the five result arrays hold after the two pipelines, as functions of the whole arrays `x`, `dy` and the gradient. -/
module

public import proofs.«01_k».proof.Proof.ITile
public import proofs.«01_k».proof.Proof.IRun
public import Idealize.ShloMosaic.Lib.Pipeline.ValueKit
public import Idealize.ShloMosaic.Lib.Pipeline.Covers

@[expose] public section

set_option maxRecDepth 16384

noncomputable section

namespace Cert.KernelIdeal.Run

open Cert.KernelIdeal.Gen Cert.Scale
open Idealize.ShloMosaic Idealize.ShloMosaic.TcCoe
open Idealize.ShloMosaic.Pipeline (Dat Cfg Window cellOf)

/-- Row of scales of `x`. -/
def scaleX (A : S8192x9472.Idx → EReal) (j : Fin 9472) : EReal := kscale (amax fun i => A (ix2 i j)) (ratX (amax fun i => A (ix2 i j)))
/-- Codes of `x`. -/
def codeX (A : S8192x9472.Idx → EReal) (i : Fin 8192) (j : Fin 9472) : EReal :=
  clipX (A (ix2 i j) * kinv (amax fun i => A (ix2 i j)) (ratX (amax fun i => A (ix2 i j))))
theorem codeX_eq (A : S8192x9472.Idx → EReal) (i : Fin 8192) (j : Fin 9472) :
    codeX A i j = min (Ideal.ofBits .f32 0x43E00000#32) (max (Ideal.ofBits .f32 0xC3E00000#32) (A (ix2 i j) * kinv (amax fun i => A (ix2 i j)) (ratX (amax fun i => A (ix2 i j))))) := by
  rw [codeX, clipX]
/-- Row of scales of `dy`. -/
def scaleD (A : S8192x3584.Idx → EReal) (j : Fin 3584) : EReal := kscale (amax fun i => A (ix2 i j)) (ratD (amax fun i => A (ix2 i j)))
/-- Codes of `dy`. -/
def codeD (A : S8192x3584.Idx → EReal) (i : Fin 8192) (j : Fin 3584) : EReal :=
  clipD (A (ix2 i j) * kinv (amax fun i => A (ix2 i j)) (ratD (amax fun i => A (ix2 i j))))
theorem codeD_eq (A : S8192x3584.Idx → EReal) (i : Fin 8192) (j : Fin 3584) :
    codeD A i j = min (Ideal.ofBits .f32 0x47600000#32) (max (Ideal.ofBits .f32 0xC7600000#32) (A (ix2 i j) * kinv (amax fun i => A (ix2 i j)) (ratD (amax fun i => A (ix2 i j))))) := by
  rw [codeD, clipD]
/-- The gradient: what was there plus the product of the codes times the product of the scales. -/
def gradE (M : S9472x3584.Idx → EReal) (A : S8192x9472.Idx → EReal) (B : S8192x3584.Idx → EReal) (y : S9472x3584.Idx) : EReal :=
  M y + (∑ k : Fin 8192, codeX A k (y 0) * codeD B k (y 1)) * (scaleX A (y 0) * scaleD B (y 1))

/-- The gradient from the codes `C` and scales `S` of `dy`. -/
def tileE (M : S9472x3584.Idx → EReal) (A : S8192x9472.Idx → EReal) (C : S8192x3584.Idx → EReal) (S : S1x3584.Idx → EReal) (j : Fin 9472) (l : Fin 3584) : EReal :=
  M (ix2 j l) + (∑ k : Fin 8192, codeX A k j * C (ix2 k l)) * (scaleX A j * S (ix2 0 l))

/-! ### Blocks -/

/-- Column `256 s + q` of an array of 37 blocks. -/
def cx (s : Fin 37) (q : Fin 256) : Fin 9472 := ⟨s.val * 256 + q.val, by omega⟩
/-- Column `256 s + q` of an array of 14 blocks. -/
def cd (s : Fin 14) (q : Fin 256) : Fin 3584 := ⟨s.val * 256 + q.val, by omega⟩
/-- Column `512 n + q` of an array of 7 tiles. -/
def cn (n : Fin 7) (q : Fin 512) : Fin 3584 := ⟨n.val * 512 + q.val, by omega⟩

theorem dyblk_col (A : S8192x3584.Idx → EReal) (s : Fin 14) (i : Fin 8192) (q : Fin 256) :
    dyblk (F := Ideal) A s (ix2 i q) = A (ix2 i (cd s q)) := rfl
theorem xblk_col (A : S8192x9472.Idx → EReal) (s : Fin 37) (i : Fin 8192) (q : Fin 256) :
    xblk (F := Ideal) A s (ix2 i q) = A (ix2 i (cx s q)) := rfl

theorem codes0_blk (A : S8192x3584.Idx → EReal) (s : Fin 14) (i : Fin 8192) (q : Fin 256) :
    codes0 (F := Ideal) (dyblk (F := Ideal) A s) (ix2 i q) = codeD A i (cd s q) := by
  rw [codes0_apply]
  simp only [ix2_1, dyblk_col]
  rw [codeD]
theorem codes1_blk (A : S8192x9472.Idx → EReal) (s : Fin 37) (i : Fin 8192) (q : Fin 256) :
    codes1 (F := Ideal) (xblk (F := Ideal) A s) (ix2 i q) = codeX A i (cx s q) := by
  rw [codes1_apply]
  simp only [ix2_1, xblk_col]
  rw [codeX]
theorem scale0_blk (A : S8192x3584.Idx → EReal) (s : Fin 14) (i : Fin 1) (q : Fin 256) :
    scale0 (F := Ideal) (dyblk (F := Ideal) A s) (ix2 i q) = scaleD A (cd s q) := by
  rw [scale0_apply]
  simp only [ix2_1, dyblk_col]
  rw [scaleD]
theorem scale1_blk (A : S8192x9472.Idx → EReal) (s : Fin 37) (i : Fin 1) (q : Fin 256) :
    scale1 (F := Ideal) (xblk (F := Ideal) A s) (ix2 i q) = scaleX A (cx s q) := by
  rw [scale1_apply]
  simp only [ix2_1, xblk_col]
  rw [scaleX]

theorem scale0_at (A : S8192x3584.Idx → EReal) (s : Fin 14) (y : S1x256.Idx) (j : Fin 3584) (hj : j.val = s.val * 256 + (y 1).val) :
    scale0 (F := Ideal) (dyblk (F := Ideal) A s) y = scaleD A j := by
  obtain ⟨i, q, rfl⟩ : ∃ (i : Fin 1) (q : Fin 256), y = ix2 i q := ⟨y 0, y 1, (ix2_eta y).symm⟩
  obtain rfl : j = cd s q := Fin.ext hj
  exact scale0_blk A s i q
theorem scale1_at (A : S8192x9472.Idx → EReal) (s : Fin 37) (y : S1x256.Idx) (j : Fin 9472) (hj : j.val = s.val * 256 + (y 1).val) :
    scale1 (F := Ideal) (xblk (F := Ideal) A s) y = scaleX A j := by
  obtain ⟨i, q, rfl⟩ : ∃ (i : Fin 1) (q : Fin 256), y = ix2 i q := ⟨y 0, y 1, (ix2_eta y).symm⟩
  obtain rfl : j = cx s q := Fin.ext hj
  exact scale1_blk A s i q

variable (W : Dev nD → Valuation τ sig (Elt Ideal))

/-- The codes of `dy` after the first pipeline. -/
theorem arr0_1 (c : Dev nD) : (dat0 W c).arrAt 1 cfg0.N = fun y : S8192x3584.Idx => codeD (W c (Proc.devRef .tc main_v1)) (y 0) (y 1) := by
  refine (dat0 W c).arrAt_eq_of_covers 1 _ (by decide +kernel) fun t hf y => ?_
  blk_simp
  rw [after0_1]
  have e0 : ((win0_1.blk t).view.emb y 0).val = (y 0).val := by blk_simp [(idx0 t).2.1]
  have e1 : ((win0_1.blk t).view.emb y 1).val = t.val * 256 + (y 1).val := by blk_simp [(idx0 t).2.1]
  refine Eq.trans (congrArg _ (ix2_eta y).symm) ((codes0_blk _ _ (y 0) (y 1)).trans ?_)
  exact congrArg₂ (codeD _) (Fin.ext e0.symm) (Fin.ext e1.symm)

theorem emb0_2 (t : Fin cfg0.N) (y : S1x256.Idx) : ((win0_2.blk t).view.emb y 1).val = t.val * 256 + (y 1).val := by blk_simp [(idx0 t).2.2]

/-- The scales of `dy` after the first pipeline. -/
theorem arr0_2 (c : Dev nD) : (dat0 W c).arrAt 2 cfg0.N = fun y : S1x3584.Idx => scaleD (W c (Proc.devRef .tc main_v1)) (y 1) := by
  refine (dat0 W c).arrAt_eq_of_covers 2 _ (by decide +kernel) fun t hf y => ?_
  rw [after0_2]
  exact eq_of_heq ((cast_heq _ _).trans (heq_of_eq (scale0_at _ (col0 t) _ _ (emb0_2 t y))))

/-- The codes of `x` after the second pipeline. -/
theorem arr1_5 (c : Dev nD) : (dat1 W c).arrAt 5 cfg1.N = fun y : S8192x9472.Idx => codeX (W c (Proc.devRef .tc main_v0)) (y 0) (y 1) := by
  refine (dat1 W c).arrAt_eq_of_covers 5 _ (by decide +kernel) fun t hf y => ?_
  blk_simp
  rw [after1_5]
  have e0 : ((win1_5.blk t).view.emb y 0).val = (y 0).val := by blk_simp [(idx1 t).2.2.2.2.2.1]
  have e1 : ((win1_5.blk t).view.emb y 1).val = (t.val / 7) * 256 + (y 1).val := by blk_simp [(idx1 t).2.2.2.2.2.1]
  refine Eq.trans (congrArg _ (ix2_eta y).symm) ((codes1_blk _ _ (y 0) (y 1)).trans ?_)
  exact congrArg₂ (codeX _) (Fin.ext e0.symm) (Fin.ext e1.symm)

theorem emb1_6 (t : Fin cfg1.N) (y : S1x256.Idx) : ((win1_6.blk t).view.emb y 1).val = (t.val / 7) * 256 + (y 1).val := by blk_simp [(idx1 t).2.2.2.2.2.2]

/-- The scales of `x` after the second pipeline. -/
theorem arr1_6 (c : Dev nD) : (dat1 W c).arrAt 6 cfg1.N = fun y : S1x9472.Idx => scaleX (W c (Proc.devRef .tc main_v0)) (y 1) := by
  refine (dat1 W c).arrAt_eq_of_covers 6 _ (by decide +kernel) fun t hf y => ?_
  rw [after1_6]
  exact eq_of_heq ((cast_heq _ _).trans (heq_of_eq (scale1_at _ (strip t) _ _ (emb1_6 t y))))

theorem coord1 (t : Fin cfg1.N) : (grid1.coords t 1).val = t.val % 7 := by
  have ht := point1_lt t
  have e1 : (grid1.coords t 1).val = t.val / 1 % 7 := Pipeline.Grid.coords_val t 1 (by decide) rfl
  rw [e1, Nat.div_one]

theorem ld_codes (C : S8192x3584.Idx → EReal) (t : Fin cfg1.N) (k : Fin 8192) (q : Fin 512) :
    View.ld (Val := Elt Ideal) (e' := .fp8e5m2) C (Rect.unit (s := S8192x3584) (k1_off1 (grid1.coords t)) S8192x512.size (k1_off1_inb (grid1.coords t))) (ix2 k q)
      = C (ix2 k (cn (ncol t) q)) := by
  refine View.ld_unit_apply_of _ _ _ _ _ _ fun a => ?_
  refine Eq.trans ?_ (congrArg (· + (ix2 k q a).val) (congrFun (k1_off1_eq (grid1.coords t)) a).symm)
  have h := coord1 t
  fin_cases a
  · show k.val = 0 + k.val; omega
  · show t.val % 7 * 512 + q.val = 512 * (grid1.coords t 1).val + q.val; omega
theorem ld_scale (C : S1x3584.Idx → EReal) (t : Fin cfg1.N) (k : Fin 1) (q : Fin 512) :
    View.ld (Val := Elt Ideal) (e' := .f32) C (Rect.unit (s := S1x3584) (k1_off2 (grid1.coords t)) S1x512.size (k1_off2_inb (grid1.coords t))) (ix2 k q)
      = C (ix2 k (cn (ncol t) q)) := by
  refine View.ld_unit_apply_of _ _ _ _ _ _ fun a => ?_
  refine Eq.trans ?_ (congrArg (· + (ix2 k q a).val) (congrFun (k1_off2_eq (grid1.coords t)) a).symm)
  have h := coord1 t
  fin_cases a
  · show k.val = 0 + k.val; omega
  · show t.val % 7 * 512 + q.val = 512 * (grid1.coords t 1).val + q.val; omega

/-- The tile written at a point, at an element. -/
theorem tile_apply (c : Dev nD) (t : Fin cfg1.N) (p : Fin 256) (q : Fin 512) :
    tileAt (F := Ideal) W c t (ix2 p q) = tileE (W c (Proc.devRef .tc main_arg2)) (W c (Proc.devRef .tc main_v0)) (W c (Proc.devRef .tc main_v2_0)) (W c (Proc.devRef .tc main_v2_1)) (cx (strip t) p) (cn (ncol t) q) := by
  unfold tileAt wgradTile
  have hs : ∀ j : S256x128.Idx, scol1 (F := Ideal) (xb W c t) j = scaleX (W c (Proc.devRef .tc main_v0)) (cx (strip t) (j 0)) := fun j => by
    rw [scol1_apply]; exact scale1_blk _ _ 0 (j 0)
  rw [pay3_apply _ _ (fun p => scaleX (W c (Proc.devRef .tc main_v0)) (cx (strip t) p)) _ hs, tileE]
  simp only [ix2_0, ix2_1]
  rw [ld_scale (W c (Proc.devRef .tc main_v2_1)) t 0 q]
  refine congrArg₂ (· + ·) rfl (congrArg (· * _) (Finset.sum_congr rfl fun k _ => ?_))
  rw [ld_codes (W c (Proc.devRef .tc main_v2_0)) t k q, xt1_apply]
  exact congrArg (· * _) (codes1_blk _ _ k p)

/-- The gradient after the second pipeline, from the codes and scales of `dy` it starts with. -/
theorem arr1_4 (c : Dev nD) : (dat1 W c).arrAt 4 cfg1.N = fun y : S9472x3584.Idx =>
    tileE (W c (Proc.devRef .tc main_arg2)) (W c (Proc.devRef .tc main_v0)) (W c (Proc.devRef .tc main_v2_0)) (W c (Proc.devRef .tc main_v2_1)) (y 0) (y 1) := by
  refine (dat1 W c).arrAt_eq_of_covers 4 _ (by decide +kernel) fun t hf y => ?_
  blk_simp
  rw [after1_4]
  have e0 : ((win1_4.blk t).view.emb y 0).val = t.val / 7 * 256 + (y 0).val := by blk_simp [(idx1 t).2.2.2.2.1]
  have e1 : ((win1_4.blk t).view.emb y 1).val = t.val % 7 * 512 + (y 1).val := by blk_simp [(idx1 t).2.2.2.2.1]
  refine Eq.trans (congrArg _ (ix2_eta y).symm) ((tile_apply W c t (y 0) (y 1)).trans ?_)
  exact congrArg₂ (tileE _ _ _ _) (Fin.ext e0.symm) (Fin.ext e1.symm)

end Cert.KernelIdeal.Run
-- ==== Proof.RVals.lean ====
/- What the reference's body computes, element by element, over the extended reals. -/
module

public import proofs.«01_k».proof.Proof.IArr
public import proofs.«01_k».proof.Proof.Gen.ReferenceIdeal.Frame

@[expose] public section

set_option maxRecDepth 16384

noncomputable section

namespace Cert.ReferenceIdeal.Run

open Cert.ReferenceIdeal.Gen Cert.Scale
open Cert.KernelIdeal.Run (amax ratX ratD clipX clipD scaleX scaleD codeX codeD codeX_eq codeD_eq gradE c_ninf32)
open Idealize.ShloMosaic

/-! ### Rows of exponents and of powers of two, over the constants they name -/

/-- A row of exponents, from the greatest magnitudes and the ratios. -/
def vrexp (s : Shape) (c0 c1 cmin cinf ctwo : Ideal .f32) (a y : FVec Ideal s .f32) : FVec Ideal s .f32 :=
  select (cmpf .oeq a (broadcast s c0)) (broadcast s c0)
    (select (ori (cmpf .olt y (broadcast s cmin)) (cmpf .oeq (absf y) (broadcast s cinf))) (broadcast s c0)
      (addf (floor (divf (log y) (log (broadcast s ctwo)))) (broadcast s c1)))
theorem vrexp_apply (s : Shape) (c0 c1 cmin cinf ctwo : Ideal .f32) (a y : FVec Ideal s .f32) (j : s.Idx) :
    vrexp s c0 c1 cmin cinf ctwo a y j = Scalar.select (Ideal.cmp .oeq (a j) c0) c0
      (Scalar.select (IntOp.ori (Ideal.cmp .olt (y j) cmin) (Ideal.cmp .oeq (max (y j) (-(y j))) cinf)) c0
        (Ideal.liftRound Int.floor (Ideal.div (Ideal.log (y j)) (Ideal.log ctwo)) + c1)) := rfl

/-- A row of powers of two, infinity above the range and zero below it. -/
def vrpow (s : Shape) (chi clo c0 cinf : Ideal .f32) (e : FVec Ideal s .f32) : FVec Ideal s .f32 :=
  select (cmpf .ogt e (broadcast s chi)) (broadcast s cinf) (select (cmpf .olt e (broadcast s clo)) (broadcast s c0) (exp2 e))
theorem vrpow_apply (s : Shape) (chi clo c0 cinf : Ideal .f32) (e : FVec Ideal s .f32) (j : s.Idx) :
    vrpow s chi clo c0 cinf e j = Scalar.select (Ideal.cmp .ogt (e j) chi) cinf
      (Scalar.select (Ideal.cmp .olt (e j) clo) c0 (Ideal.exp2 (e j))) := rfl

/-- A row times a constant, at a channel. -/
theorem mul_bcast (s : Shape) (a : FVec Ideal s .f32) (b : Ideal .f32) (j) : mulf a (broadcast s b) j = a j * b := rfl
/-- A constant minus a row, at a channel. -/
theorem bcast_sub (s : Shape) (a : FVec Ideal s .f32) (b : Ideal .f32) (j) : subf (broadcast s b) a j = b - a j := rfl

/-! ### The channels of `x` -/

/-- The greatest magnitudes of the channels of `x`. -/
def amX (v : Vec Ideal S8192x9472 .bf16) : FVec Ideal S1x9472 .f32 :=
  shapeCast S1x9472 (multiReduction .maximumf [0] S9472 (absf (k0_pay1 v)) 0xFF800000#32 reduces_S8192x9472_S9472 (.inl rfl) rfl) shapeCasts_S9472_S1x9472
theorem amX_apply (v : Vec Ideal S8192x9472 .bf16) (j : S1x9472.Idx) : amX v j = amax fun i => v (ix2 i (j 1)) := by
  unfold amX k0_pay1 amax
  pointwise
  rw [c_ninf32]; rfl
/-- The exponents of the channels of `x`. -/
theorem pay2_eq (v : Vec Ideal S8192x9472 .bf16) : k0_pay2 v = vrexp S1x9472 (Ideal.ofBits .f32 0x00000000#32) (Ideal.ofBits .f32 0x3F800000#32)
    (Ideal.ofBits .f32 0x00800000#32) (Ideal.ofBits .f32 0x7F800000#32) (Ideal.ofBits .f32 0x40000000#32) (amX v)
    (mulf (amX v) (broadcast S1x9472 (FloatOps.ofBits (F := Ideal) .f32 0x3B124925#32))) := by
  unfold k0_pay2
  rfl
theorem pay2_apply (v : Vec Ideal S8192x9472 .bf16) (j : S1x9472.Idx) :
    k0_pay2 v j = rexp (amax fun i => v (ix2 i (j 1))) (ratX (amax fun i => v (ix2 i (j 1)))) := by
  rw [pay2_eq, vrexp_apply, mul_bcast, amX_apply, rexp, ratX]
theorem pay3_apply (v : Vec Ideal S8192x9472 .bf16) (j : S1x9472.Idx) :
    k0_pay3 v j = rpow (k0_pay2 v j) := by
  have e : k0_pay3 v = vrpow S1x9472 (Ideal.ofBits .f32 0x42FE0000#32) (Ideal.ofBits .f32 0xC2FC0000#32) (Ideal.ofBits .f32 0x00000000#32) (Ideal.ofBits .f32 0x7F800000#32) (k0_pay2 v) := by
    unfold k0_pay3; generalize k0_pay2 v = w; rfl
  rw [e, vrpow_apply, rpow]
/-- A scale of `x`, as the kernel's. -/
theorem scaleX_ref (v : Vec Ideal S8192x9472 .bf16) (j : S1x9472.Idx) : k0_pay3 v j = scaleX v (j 1) := by
  rw [pay3_apply, pay2_apply]
  exact (kscale_eq_rscale _ _).1.symm
/-- The inverse scales of `x`. -/
def invX (v : Vec Ideal S8192x9472 .bf16) : FVec Ideal S1x9472 .f32 :=
  vrpow S1x9472 (Ideal.ofBits .f32 0x42FE0000#32) (Ideal.ofBits .f32 0xC2FC0000#32) (Ideal.ofBits .f32 0x00000000#32) (Ideal.ofBits .f32 0x7F800000#32)
    (subf (broadcast S1x9472 (Ideal.ofBits .f32 0x00000000#32)) (k0_pay2 v))
theorem invX_apply (v : Vec Ideal S8192x9472 .bf16) (j : S1x9472.Idx) :
    invX v j = rpow (Ideal.ofBits .f32 0x00000000#32 - k0_pay2 v j) := by
  rw [invX, vrpow_apply, bcast_sub, rpow]
theorem clipX_vec (v : Vec Ideal S8192x9472 .bf16) (p : FVec Ideal S1x9472 .f32) (lo hi : Ideal .f32) (y : S8192x9472.Idx) :
    truncf .fp8e4m3 (minimumf (broadcast S8192x9472 hi) (maximumf (broadcast S8192x9472 lo) (mulf (k0_pay1 v) (broadcastTo S8192x9472 p broadcasts_S1x9472_S8192x9472)))) bitsLt_fp8e4m3_f32 y
      = (min hi (max lo (v y * p (ix2 0 (y 1)))) : EReal) := by
  unfold k0_pay1
  pointwise
/-- The codes of `x` of the reference's body. -/
def cdX (v : Vec Ideal S8192x9472 .bf16) : FVec Ideal S8192x9472 .fp8e4m3 := k0_pay7 (k0_pay1 v) (k0_pay4 v) (k0_pay5 v) (k0_pay6 v)
theorem cdX_eq (v : Vec Ideal S8192x9472 .bf16) : cdX v =
    truncf .fp8e4m3 (minimumf (broadcast S8192x9472 (Ideal.ofBits .f32 0x43E00000#32)) (maximumf (broadcast S8192x9472 (Ideal.ofBits .f32 0xC3E00000#32)) (mulf (k0_pay1 v) (broadcastTo S8192x9472 (invX v) broadcasts_S1x9472_S8192x9472)))) bitsLt_fp8e4m3_f32 := by
  unfold cdX k0_pay7 k0_pay6 k0_pay5 k0_pay4 invX
  generalize k0_pay2 v = w, k0_pay1 v = u
  rfl
/-- A code of `x`, as the kernel's. -/
theorem codeX_ref (v : Vec Ideal S8192x9472 .bf16) (y : S8192x9472.Idx) : cdX v y = codeX v (y 0) (y 1) := by
  rw [cdX_eq, clipX_vec, invX_apply, pay2_apply]
  refine Eq.trans ?_ (codeX_eq v (y 0) (y 1)).symm
  rw [(kscale_eq_rscale _ _).2, rinv, ix2_eta]
  rfl

/-! ### The channels of `dy` -/

/-- The greatest magnitudes of the channels of `dy`. -/
def amD (v : Vec Ideal S8192x3584 .bf16) : FVec Ideal S1x3584 .f32 :=
  shapeCast S1x3584 (multiReduction .maximumf [0] S3584 (absf (k0_pay8 v)) 0xFF800000#32 reduces_S8192x3584_S3584 (.inl rfl) rfl) shapeCasts_S3584_S1x3584
theorem amD_apply (v : Vec Ideal S8192x3584 .bf16) (j : S1x3584.Idx) : amD v j = amax fun i => v (ix2 i (j 1)) := by
  unfold amD k0_pay8 amax
  pointwise
  rw [c_ninf32]; rfl
/-- The exponents of the channels of `dy`. -/
theorem pay9_eq (v : Vec Ideal S8192x3584 .bf16) : k0_pay9 v = vrexp S1x3584 (Ideal.ofBits .f32 0x00000000#32) (Ideal.ofBits .f32 0x3F800000#32)
    (Ideal.ofBits .f32 0x00800000#32) (Ideal.ofBits .f32 0x7F800000#32) (Ideal.ofBits .f32 0x40000000#32) (amD v)
    (mulf (amD v) (broadcast S1x3584 (FloatOps.ofBits (F := Ideal) .f32 0x37924925#32))) := by
  unfold k0_pay9
  rfl
theorem pay9_apply (v : Vec Ideal S8192x3584 .bf16) (j : S1x3584.Idx) :
    k0_pay9 v j = rexp (amax fun i => v (ix2 i (j 1))) (ratD (amax fun i => v (ix2 i (j 1)))) := by
  rw [pay9_eq, vrexp_apply, mul_bcast, amD_apply, rexp, ratD]
/-- The scales of `dy` of the reference's body. -/
def scD (v : Vec Ideal S8192x3584 .bf16) : FVec Ideal S1x3584 .f32 := k0_pay12 (k0_pay9 v) (k0_pay10 v) (k0_pay11 v)
theorem scD_apply (v : Vec Ideal S8192x3584 .bf16) (j : S1x3584.Idx) :
    scD v j = rpow (k0_pay9 v j) := by
  have e : scD v = vrpow S1x3584 (Ideal.ofBits .f32 0x42FE0000#32) (Ideal.ofBits .f32 0xC2FC0000#32) (Ideal.ofBits .f32 0x00000000#32) (Ideal.ofBits .f32 0x7F800000#32) (k0_pay9 v) := by
    unfold scD k0_pay12 k0_pay11 k0_pay10; generalize k0_pay9 v = w; rfl
  rw [e, vrpow_apply, rpow]
/-- A scale of `dy`, as the kernel's. -/
theorem scaleD_ref (v : Vec Ideal S8192x3584 .bf16) (j : S1x3584.Idx) : scD v j = scaleD v (j 1) := by
  rw [scD_apply, pay9_apply]
  exact (kscale_eq_rscale _ _).1.symm
/-- The inverse scales of `dy`. -/
def invD (v : Vec Ideal S8192x3584 .bf16) : FVec Ideal S1x3584 .f32 :=
  vrpow S1x3584 (Ideal.ofBits .f32 0x42FE0000#32) (Ideal.ofBits .f32 0xC2FC0000#32) (Ideal.ofBits .f32 0x00000000#32) (Ideal.ofBits .f32 0x7F800000#32)
    (subf (broadcast S1x3584 (Ideal.ofBits .f32 0x00000000#32)) (k0_pay9 v))
theorem invD_apply (v : Vec Ideal S8192x3584 .bf16) (j : S1x3584.Idx) :
    invD v j = rpow (Ideal.ofBits .f32 0x00000000#32 - k0_pay9 v j) := by
  rw [invD, vrpow_apply, bcast_sub, rpow]
theorem clipD_vec (v : Vec Ideal S8192x3584 .bf16) (p : FVec Ideal S1x3584 .f32) (lo hi : Ideal .f32) (y : S8192x3584.Idx) :
    truncf .fp8e5m2 (minimumf (broadcast S8192x3584 hi) (maximumf (broadcast S8192x3584 lo) (mulf (k0_pay8 v) (broadcastTo S8192x3584 p broadcasts_S1x3584_S8192x3584)))) bitsLt_fp8e5m2_f32 y
      = (min hi (max lo (v y * p (ix2 0 (y 1)))) : EReal) := by
  unfold k0_pay8
  pointwise
/-- The codes of `dy` of the reference's body. -/
def cdD (v : Vec Ideal S8192x3584 .bf16) : FVec Ideal S8192x3584 .fp8e5m2 := k0_pay13 (k0_pay8 v) (k0_pay9 v)
theorem cdD_eq (v : Vec Ideal S8192x3584 .bf16) : cdD v =
    truncf .fp8e5m2 (minimumf (broadcast S8192x3584 (Ideal.ofBits .f32 0x47600000#32)) (maximumf (broadcast S8192x3584 (Ideal.ofBits .f32 0xC7600000#32)) (mulf (k0_pay8 v) (broadcastTo S8192x3584 (invD v) broadcasts_S1x3584_S8192x3584)))) bitsLt_fp8e5m2_f32 := by
  unfold cdD k0_pay13 invD
  generalize k0_pay9 v = w, k0_pay8 v = u
  rfl
/-- A code of `dy`, as the kernel's. -/
theorem codeD_ref (v : Vec Ideal S8192x3584 .bf16) (y : S8192x3584.Idx) : cdD v y = codeD v (y 0) (y 1) := by
  rw [cdD_eq, clipD_vec, invD_apply, pay9_apply]
  refine Eq.trans ?_ (codeD_eq v (y 0) (y 1)).symm
  rw [(kscale_eq_rscale _ _).2, rinv, ix2_eta]
  rfl

/-! ### The gradient -/

/-- The gradient's element from codes and scales. -/
theorem grad_vec (sx : FVec Ideal S1x9472 .f32) (cx : FVec Ideal S8192x9472 .fp8e4m3) (cd : FVec Ideal S8192x3584 .fp8e5m2) (sd : FVec Ideal S1x3584 .f32)
    (mg : Vec Ideal S9472x3584 .f32) (y : S9472x3584.Idx) :
    addf mg (mulf (matmul dot_S8192x9472_S8192x3584_S9472x3584_0_0_1_1_n_n none cx cd (constant S9472x3584 .f32 0x00000000#32))
      (mulf (broadcastTo S9472x3584 (transpose S9472x1 [1, 0] sx transposes_S1x9472_p1_0_S9472x1) broadcasts_S9472x1_S9472x3584)
        (broadcastTo S9472x3584 sd broadcasts_S1x3584_S9472x3584))) y
      = mg y + (∑ k : Fin 8192, (cx (ix2 k (y 0)) : EReal) * cd (ix2 k (y 1))) * (sx (ix2 0 (y 0)) * sd (ix2 0 (y 1))) := by
  pointwise

theorem codeX_at (v : Vec Ideal S8192x9472 .bf16) (i : Fin 8192) (j : Fin 9472) : cdX v (ix2 i j) = codeX v i j := codeX_ref v (ix2 i j)
theorem codeD_at (v : Vec Ideal S8192x3584 .bf16) (i : Fin 8192) (j : Fin 3584) : cdD v (ix2 i j) = codeD v i j := codeD_ref v (ix2 i j)
theorem scaleX_at (v : Vec Ideal S8192x9472 .bf16) (i : Fin 1) (j : Fin 9472) : k0_pay3 v (ix2 i j) = scaleX v j := scaleX_ref v (ix2 i j)
theorem scaleD_at (v : Vec Ideal S8192x3584 .bf16) (i : Fin 1) (j : Fin 3584) : scD v (ix2 i j) = scaleD v j := scaleD_ref v (ix2 i j)

/-- The gradient's element of the reference's body, as the kernel's. -/
theorem grad_ref (u : Vec Ideal S8192x9472 .bf16) (v : Vec Ideal S8192x3584 .bf16) (mg : Vec Ideal S9472x3584 .f32) (y : S9472x3584.Idx) :
    k0_pay14 (k0_pay3 u) (cdX u) (k0_pay8 v) (k0_pay9 v) (k0_pay10 v) (k0_pay11 v) mg y = gradE mg u v y := by
  have e : k0_pay14 (k0_pay3 u) (cdX u) (k0_pay8 v) (k0_pay9 v) (k0_pay10 v) (k0_pay11 v) mg =
    addf mg (mulf (matmul dot_S8192x9472_S8192x3584_S9472x3584_0_0_1_1_n_n none (cdX u) (cdD v) (constant S9472x3584 .f32 0x00000000#32))
      (mulf (broadcastTo S9472x3584 (transpose S9472x1 [1, 0] (k0_pay3 u) transposes_S1x9472_p1_0_S9472x1) broadcasts_S9472x1_S9472x3584)
        (broadcastTo S9472x3584 (scD v) broadcasts_S1x3584_S9472x3584))) := by
    unfold k0_pay14 cdD scD
    generalize k0_pay3 u = a, cdX u = b, k0_pay13 (k0_pay8 v) (k0_pay9 v) = d, k0_pay12 (k0_pay9 v) (k0_pay10 v) (k0_pay11 v) = f
    rfl
  rw [e, grad_vec, gradE]
  exact congrArg₂ (· + ·) rfl (congrArg₂ (· * ·)
    (Finset.sum_congr rfl fun k _ => congrArg₂ (· * ·) (codeX_at u k (y 0)) (codeD_at v k (y 1)))
    (congrArg₂ (· * ·) (scaleX_at u 0 (y 0)) (scaleD_at v 0 (y 1))))

end Cert.ReferenceIdeal.Run
-- ==== Proof.RArr.lean ====
/- What the reference's program leaves in its five results, over the extended reals. -/
module

public import proofs.«01_k».proof.Proof.RVals

@[expose] public section

set_option maxRecDepth 16384

noncomputable section

namespace Cert.ReferenceIdeal.Run

open Cert.ReferenceIdeal Cert.ReferenceIdeal.Gen Cert.Scale
open Cert.KernelIdeal.Run (scaleX scaleD codeX codeD gradE)
open Idealize.ShloMosaic Idealize.ShloMosaic.TcCoe Idealize.SL.Sem
open Idealize.ShloMosaic.Pipeline (Dat)

/-! ### What the body stores -/

theorem st3 (u : Vec Ideal S8192x9472 .bf16) (v : Vec Ideal S8192x3584 .bf16) (g : Vec Ideal S9472x3584 .f32) :
    out0_3 u v g = fun y : S9472x3584.Idx => gradE g u v y := by
  unfold out0_3 k0_pay20 k0_pay19 k0_pay18 k0_pay17 k0_pay16 k0_pay15
  rw [View.canon_unit_zero, View.ld_unit_zero, View.ld_unit_zero, View.ld_unit_zero]
  · exact funext fun y => grad_ref u v g y
  all_goals exact funext fun a => by fin_cases a <;> rfl
theorem st4 (u : Vec Ideal S8192x9472 .bf16) (v : Vec Ideal S8192x3584 .bf16) (g : Vec Ideal S9472x3584 .f32) :
    out0_4 u v g = fun y : S8192x9472.Idx => codeX u (y 0) (y 1) := by
  unfold out0_4 k0_pay16
  rw [View.canon_unit_zero, View.ld_unit_zero]
  · exact funext fun y => codeX_ref u y
  all_goals exact funext fun a => by fin_cases a <;> rfl
theorem st5 (u : Vec Ideal S8192x9472 .bf16) (v : Vec Ideal S8192x3584 .bf16) (g : Vec Ideal S9472x3584 .f32) :
    out0_5 u v g = fun y : S1x9472.Idx => scaleX u (y 1) := by
  unfold out0_5 k0_pay15
  rw [View.canon_unit_zero, View.ld_unit_zero]
  · exact funext fun y => scaleX_ref u y
  all_goals exact funext fun a => by fin_cases a <;> rfl
theorem st6 (u : Vec Ideal S8192x9472 .bf16) (v : Vec Ideal S8192x3584 .bf16) (g : Vec Ideal S9472x3584 .f32) :
    out0_6 u v g = fun y : S8192x3584.Idx => codeD v (y 0) (y 1) := by
  unfold out0_6 k0_pay18 k0_pay17
  rw [View.canon_unit_zero, View.ld_unit_zero]
  · exact funext fun y => codeD_ref v y
  all_goals exact funext fun a => by fin_cases a <;> rfl
theorem st7 (u : Vec Ideal S8192x9472 .bf16) (v : Vec Ideal S8192x3584 .bf16) (g : Vec Ideal S9472x3584 .f32) :
    out0_7 u v g = fun y : S1x3584.Idx => scaleD v (y 1) := by
  unfold out0_7 k0_pay20 k0_pay19 k0_pay18
  rw [View.canon_unit_zero, View.ld_unit_zero]
  · exact funext fun y => scaleD_ref v y
  all_goals exact funext fun a => by fin_cases a <;> rfl

/-! ### The blocks and the arrays -/

variable (m : (ℓ : Loc nD τ sig) → Buf (Elt Ideal) ℓ) (ρ : Dev nD → PrngReg)

/-- Every window's block index at the one point. -/
theorem ridx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem rblk0 (c : Dev nD) : iblk m c 0 t0_0 = V m c main_v0 := by
  blk_ext! [iblk, (ridx t0_0).1]
theorem rblk1 (c : Dev nD) : iblk m c 1 t0_0 = V m c main_v1 := by
  blk_ext! [iblk, (ridx t0_0).2.1]
theorem rblk2 (c : Dev nD) : iblk m c 2 t0_0 = V m c main_arg2 := by
  blk_ext! [iblk, (ridx t0_0).2.2.1]

theorem rarr3 (c : Dev nD) : (dats m 0 c).arrAt 3 cfg0.N = fun y : S9472x3584.Idx => gradE (V m c main_arg2) (V m c main_v0) (V m c main_v1) y := by
  refine (dats m 0 c).arrAt_eq_of_after_last 3 t0_0 (by decide +kernel) _ fun j => ?_
  rw [after0_3, rblk0, rblk1, rblk2, st3]
  rfl
theorem rarr4 (c : Dev nD) : (dats m 0 c).arrAt 4 cfg0.N = fun y : S8192x9472.Idx => codeX (V m c main_v0) (y 0) (y 1) := by
  refine (dats m 0 c).arrAt_eq_of_after_last 4 t0_0 (by decide +kernel) _ fun j => ?_
  rw [after0_4, rblk0, rblk1, rblk2, st4]
  rfl
theorem rarr5 (c : Dev nD) : (dats m 0 c).arrAt 5 cfg0.N = fun y : S1x9472.Idx => scaleX (V m c main_v0) (y 1) := by
  refine (dats m 0 c).arrAt_eq_of_after_last 5 t0_0 (by decide +kernel) _ fun j => ?_
  rw [after0_5, rblk0, rblk1, rblk2, st5]
  rfl
theorem rarr6 (c : Dev nD) : (dats m 0 c).arrAt 6 cfg0.N = fun y : S8192x3584.Idx => codeD (V m c main_v1) (y 0) (y 1) := by
  refine (dats m 0 c).arrAt_eq_of_after_last 6 t0_0 (by decide +kernel) _ fun j => ?_
  rw [after0_6, rblk0, rblk1, rblk2, st6]
  rfl
theorem rarr7 (c : Dev nD) : (dats m 0 c).arrAt 7 cfg0.N = fun y : S1x3584.Idx => scaleD (V m c main_v1) (y 1) := by
  refine (dats m 0 c).arrAt_eq_of_after_last 7 t0_0 (by decide +kernel) _ fun j => ?_
  rw [after0_7, rblk0, rblk1, rblk2, st7]
  rfl

end Cert.ReferenceIdeal.Run
-- ==== Proof.Same.lean ====
/- The two programs leave the same five results from the same arguments, over the extended reals. -/
module

public import proofs.«01_k».proof.Defs
public import proofs.«01_k».proof.Proof.IRun
public import proofs.«01_k».proof.Proof.RArr

@[expose] public section

set_option maxRecDepth 16384

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ)

/-- The first argument as the rows the kernels read. -/
def rowsX (x : S8x1024x9472.Idx → EReal) : S8192x9472.Idx → EReal := shapeCast S8192x9472 x shapeCasts_S8x1024x9472_S8192x9472
/-- The second argument as the rows the kernels read. -/
def rowsD (x : S8x1024x3584.Idx → EReal) : S8192x3584.Idx → EReal := shapeCast S8192x3584 x shapeCasts_S8x1024x3584_S8192x3584

theorem V1_x (c : Dev nD) : V1 m c (Proc.devRef .tc main_v0) = rowsX (m ((c : Thread nD τ).loc main_arg0)) := by
  unfold V1 hostOps0
  rw [StableHlo.after_cons, StableHlo.after_cons, StableHlo.after_nil, StableHlo.reshape_result_ne', StableHlo.reshape_result']
  · rfl
  · decide
theorem V1_d (c : Dev nD) : V1 m c (Proc.devRef .tc main_v1) = rowsD (m ((c : Thread nD τ).loc main_arg1)) := by
  unfold V1 hostOps0
  rw [StableHlo.after_cons, StableHlo.after_cons, StableHlo.after_nil, StableHlo.reshape_result', StableHlo.reshape_result_ne']
  · rfl
  · decide

theorem W2_x (c : Dev nD) : W2 m c (Proc.devRef .tc main_v0) = rowsX (m ((c : Thread nD τ).loc main_arg0)) :=
  (W2_of m c main_v0 (by decide)).trans (V1_x m c)
theorem W2_g (c : Dev nD) : W2 m c (Proc.devRef .tc main_arg2) = m ((c : Thread nD τ).loc main_arg2) :=
  (W2_of m c main_arg2 (by decide)).trans ((V1_of m c main_arg2 (by decide)).trans rfl)
theorem W1_d (c : Dev nD) : W1 m c (Proc.devRef .tc main_v1) = rowsD (m ((c : Thread nD τ).loc main_arg1)) := V1_d m c

/-- The codes of `dy` at the end. -/
theorem fin_dcodes (c : Dev nD) : W2 m c (Proc.devRef .tc main_v2_0) = fun y : S8192x3584.Idx => codeD (rowsD (m ((c : Thread nD τ).loc main_arg1))) (y 0) (y 1) := by
  rw [W2_codes, arr0_1, W1_d]
/-- The scales of `dy` at the end. -/
theorem fin_dscale (c : Dev nD) : W2 m c (Proc.devRef .tc main_v2_1) = fun y : S1x3584.Idx => scaleD (rowsD (m ((c : Thread nD τ).loc main_arg1))) (y 1) := by
  rw [W2_scale, arr0_2, W1_d]
/-- The codes of `x` at the end. -/
theorem fin_xcodes (c : Dev nD) : W3 m c (Proc.devRef .tc main_v3_1) = fun y : S8192x9472.Idx => codeX (rowsX (m ((c : Thread nD τ).loc main_arg0))) (y 0) (y 1) := by
  rw [W3_xcodes, arr1_5, W2_x]
/-- The scales of `x` at the end. -/
theorem fin_xscale (c : Dev nD) : W3 m c (Proc.devRef .tc main_v3_2) = fun y : S1x9472.Idx => scaleX (rowsX (m ((c : Thread nD τ).loc main_arg0))) (y 1) := by
  rw [W3_xscale, arr1_6, W2_x]
/-- The gradient's element from the codes and scales of the first pipeline is the gradient's element. -/
theorem tileE_gradE (M : S9472x3584.Idx → EReal) (A : S8192x9472.Idx → EReal) (B : S8192x3584.Idx → EReal) (y : S9472x3584.Idx) :
    tileE M A (fun z => codeD B (z 0) (z 1)) (fun z => scaleD B (z 1)) (y 0) (y 1) = gradE M A B y := by
  have e : (ix2 (y 0) (y 1) : S9472x3584.Idx) = y := ix2_eta y
  exact congrArg (fun z => M z + (∑ k : Fin 8192, codeX A k (y 0) * codeD B k (y 1)) * (scaleX A (y 0) * scaleD B (y 1))) e
/-- The gradient at the end. -/
theorem fin_out (c : Dev nD) : W3 m c (Proc.devRef .tc main_v3_0) = fun y : S9472x3584.Idx =>
    gradE (m ((c : Thread nD τ).loc main_arg2)) (rowsX (m ((c : Thread nD τ).loc main_arg0))) (rowsD (m ((c : Thread nD τ).loc main_arg1))) y := by
  rw [W3_out, arr1_4, W2_x, W2_g, fin_dcodes, fin_dscale]
  exact funext fun y => tileE_gradE _ _ _ y

end Cert.KernelIdeal.Run

namespace Cert.ReferenceIdeal.Run

open Cert.ReferenceIdeal Cert.ReferenceIdeal.Gen
open Cert.KernelIdeal.Run (scaleX scaleD codeX codeD gradE rowsX rowsD)
open Idealize.ShloMosaic Idealize.ShloMosaic.TcCoe Idealize.SL.Sem

variable (m : (ℓ : Loc nD τ sig) → Buf (Elt Ideal) ℓ)

theorem V_x (c : Dev nD) : V m c main_v0 = rowsX (m ((c : Thread nD τ).loc main_arg0)) := by
  unfold V hostOps0
  rw [StableHlo.after_cons, StableHlo.after_cons, StableHlo.after_nil, StableHlo.reshape_result_ne', StableHlo.reshape_result']
  · rfl
  · decide
theorem V_d (c : Dev nD) : V m c main_v1 = rowsD (m ((c : Thread nD τ).loc main_arg1)) := by
  unfold V hostOps0
  rw [StableHlo.after_cons, StableHlo.after_cons, StableHlo.after_nil, StableHlo.reshape_result', StableHlo.reshape_result_ne']
  · rfl
  · decide

/-- What the reference's program leaves in its results and arguments. -/
theorem run_values (ρ : Dev nD → PrngReg) : θ_run defs (onTc (τ := τ) (main (F := Ideal))) ⟨m, fun _ => 0, ρ⟩ (fun r => ∀ c : Dev nD,
    r.2.mem ((c.tc : Thread nD τ).loc main_v2_0) = (fun y : S9472x3584.Idx => gradE (m ((c : Thread nD τ).loc main_arg2)) (rowsX (m ((c : Thread nD τ).loc main_arg0))) (rowsD (m ((c : Thread nD τ).loc main_arg1))) y)
    ∧ r.2.mem ((c.tc : Thread nD τ).loc main_v2_1) = (fun y : S8192x9472.Idx => codeX (rowsX (m ((c : Thread nD τ).loc main_arg0))) (y 0) (y 1))
    ∧ r.2.mem ((c.tc : Thread nD τ).loc main_v2_2) = (fun y : S1x9472.Idx => scaleX (rowsX (m ((c : Thread nD τ).loc main_arg0))) (y 1))
    ∧ r.2.mem ((c.tc : Thread nD τ).loc main_v2_3) = (fun y : S8192x3584.Idx => codeD (rowsD (m ((c : Thread nD τ).loc main_arg1))) (y 0) (y 1))
    ∧ r.2.mem ((c.tc : Thread nD τ).loc main_v2_4) = (fun y : S1x3584.Idx => scaleD (rowsD (m ((c : Thread nD τ).loc main_arg1))) (y 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (run_main m ρ)
  refine ⟨((h c).1 3).trans ((rarr3 m c).trans ?_), ((h c).1 4).trans ((rarr4 m c).trans ?_), ((h c).1 5).trans ((rarr5 m c).trans ?_),
    ((h c).1 6).trans ((rarr6 m c).trans ?_), ((h c).1 7).trans ((rarr7 m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c)))⟩
  · rw [V_x, V_d, V_main_arg2]
  · rw [V_x]
  · rw [V_x]
  · rw [V_d]
  · rw [V_d]

end Cert.ReferenceIdeal.Run

namespace Cert.Proof

open Idealize.ShloMosaic Idealize.ShloMosaic.TcCoe Idealize.SL.Sem
open Cert.KernelIdeal.Run

/-- From the same arguments the two programs end with the same gradient, codes and scales. -/
theorem same : Cert.algebraic_KernelIdeal_ReferenceIdeal (hKernelIdeal := Cert.KernelIdeal.Gen.facts) (hReferenceIdeal := Cert.ReferenceIdeal.Gen.facts) := by
  intro m g m' g' _ hag
  refine ⟨fun c => W3 m c (Proc.devRef .tc Cert.KernelIdeal.main_v3_0), fun c => W3 m c (Proc.devRef .tc Cert.KernelIdeal.main_v3_1), fun c => W3 m c (Proc.devRef .tc Cert.KernelIdeal.main_v3_2),
    fun c => W3 m c (Proc.devRef .tc Cert.KernelIdeal.main_v2_0), fun c => W3 m c (Proc.devRef .tc Cert.KernelIdeal.main_v2_1), ?_, ?_⟩
  · exact (run m g).mono fun r h c => ⟨h.1 c _ (mem_uc Cert.KernelIdeal.main_v3_0 rfl), h.1 c _ (mem_uc Cert.KernelIdeal.main_v3_1 rfl), h.1 c _ (mem_uc Cert.KernelIdeal.main_v3_2 rfl),
      h.1 c _ (mem_uc Cert.KernelIdeal.main_v2_0 rfl), h.1 c _ (mem_uc Cert.KernelIdeal.main_v2_1 rfl),
      (h.1 c _ (mem_uc Cert.KernelIdeal.main_arg0 rfl)).trans (W3_main_arg0 m c),
      (h.1 c _ (mem_uc Cert.KernelIdeal.main_arg1 rfl)).trans (W3_main_arg1 m c),
      (h.1 c _ (mem_uc Cert.KernelIdeal.main_arg2 rfl)).trans (W3_main_arg2 m c)⟩
  · refine (Cert.ReferenceIdeal.Run.run_values m' g').mono fun r h c => ?_
    obtain ⟨a0, a1, a2⟩ := hag c
    obtain ⟨h0, h1, h2, h3, h4, h5⟩ := h c
    rw [a0, a1, a2] at h0
    rw [a0] at h1 h2
    rw [a1] at h3 h4
    exact ⟨h0.trans (fin_out m c).symm, h1.trans (fin_xcodes m c).symm, h2.trans (fin_xscale m c).symm,
      h3.trans ((W3_codes m c).trans (fin_dcodes m c)).symm, h4.trans ((W3_scale m c).trans (fin_dscale m c)).symm, h5⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.IRun
public import proofs.«01_k».proof.Proof.Same
public import Idealize.ShloMosaic.Adequacy
public import Idealize.ShloMosaic.Init

@[expose] public section

noncomputable section

namespace Cert.Proof

open Idealize.ShloMosaic Idealize.SL.Sem Cert.Kernel

theorem frameK : Cert.quiescent_Kernel (hKernel := Cert.Kernel.Gen.facts) := fun m ρ _ => Cert.Kernel.Run.frame_run m ρ
theorem frameKI : Cert.quiescent_KernelIdeal (hKernelIdeal := Cert.KernelIdeal.Gen.facts) := fun m ρ _ => Cert.KernelIdeal.Run.frame_run m ρ
theorem frameRI : Cert.quiescent_ReferenceIdeal (hReferenceIdeal := Cert.ReferenceIdeal.Gen.facts) := fun m ρ _ => Cert.ReferenceIdeal.Gen.frame m ρ

/-- Every claim of this certificate. -/
theorem claim : Cert.Claim := ⟨Cert.Kernel.Gen.facts, Cert.KernelIdeal.Gen.facts, Cert.ReferenceIdeal.Gen.facts,
  frameK, frameKI, frameRI, trivial, same⟩

end Cert.Proof

end
